-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7F61B1E6#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1024x32 : Shape := ⟨2, ![1024, 32]⟩
abbrev S100000x32 : Shape := ⟨2, ![100000, 32]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_

variable [Facts]

def fn {F : FTy → Type} [FloatOps F] (main_arg0 : FVec F S1024x32 .f32) (main_arg1 : FVec F S100000x32 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  main_v8
-- ==== Kernel.lean ====
abbrev S1024x32 : Shape := ⟨2, ![1024, 32]⟩
abbrev S100000x32 : Shape := ⟨2, ![100000, 32]⟩
abbrev S32x100000 : Shape := ⟨2, ![32, 100000]⟩
abbrev S1024x1 : Shape := ⟨2, ![1024, 1]⟩
abbrev S1x1 : Shape := ⟨2, ![1, 1]⟩
abbrev S32x4096 : Shape := ⟨2, ![32, 4096]⟩
abbrev S1024x128 : Shape := ⟨2, ![1024, 128]⟩
abbrev S1024 : Shape := ⟨1, ![1024]⟩
abbrev S1024x4096 : Shape := ⟨2, ![1024, 4096]⟩
abbrev S4096 : Shape := ⟨1, ![4096]⟩
abbrev S1x4096 : Shape := ⟨2, ![1, 4096]⟩
abbrev S1x128 : Shape := ⟨2, ![1, 128]⟩
abbrev S1 : Shape := ⟨1, ![1]⟩
abbrev S_ : Shape := ⟨0, ![]⟩

abbrev nBuf : Space → Nat
  | .hbm => 7
  | .vmem => 9
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S32x100000, .f32⟩
  | .hbm, ⟨3, _⟩ => ⟨S1024x1, .i32⟩
  | .hbm, ⟨4, _⟩ => ⟨S1x1, .f32⟩
  | .hbm, ⟨5, _⟩ => ⟨S_, .f32⟩
  | .hbm, ⟨6, _⟩ => ⟨S1024, .i32⟩
  | .local _ .vmem, ⟨0, _⟩ => ⟨S1024x32, .f32⟩
  | .local _ .vmem, ⟨1, _⟩ => ⟨S32x4096, .f32⟩
  | .local _ .vmem, ⟨2, _⟩ => ⟨S32x4096, .f32⟩
  | .local _ .vmem, ⟨3, _⟩ => ⟨S1024x1, .i32⟩
  | .local _ .vmem, ⟨4, _⟩ => ⟨S1x1, .f32⟩
  | .local _ .vmem, ⟨5, _⟩ => ⟨S1024x128, .f32⟩
  | .local _ .vmem, ⟨6, _⟩ => ⟨S1024x128, .f32⟩
  | .local _ .vmem, ⟨7, _⟩ => ⟨S1024x128, .i32⟩
  | .local _ .vmem, ⟨8, _⟩ => ⟨S1024x128, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c24_i32_14 : BitVec 32 := 24#32
  let v17 : BitVec 1 := Scalar.cmpi .eq arg0 c24_i32_14
  let v18 : BitVec 32 := Scalar.extui v17
  let c0_i32_15 : BitVec 32 := 0#32
  let v19 : BitVec 1 := Scalar.cmpi .ne v18 c0_i32_15
  v19

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "big" => some ⊤
  | _ => none
-- ==== ReferenceIdeal.lean ====
abbrev S1024x32 : Shape := ⟨2, ![1024, 32]⟩
abbrev S100000x32 : Shape := ⟨2, ![100000, 32]⟩
abbrev S_ : Shape := ⟨0, ![]⟩
abbrev S1024 : Shape := ⟨1, ![1024]⟩
abbrev S1024x1 : Shape := ⟨2, ![1024, 1]⟩
abbrev S100000 : Shape := ⟨1, ![100000]⟩
abbrev S1x100000 : Shape := ⟨2, ![1, 100000]⟩
abbrev S1024x100000 : Shape := ⟨2, ![1024, 100000]⟩
abbrev S32x100000 : Shape := ⟨2, ![32, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S1024x32, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x32, .f32⟩
  | .hbm, ⟨7, _⟩ => ⟨S_, .f32⟩
  | .hbm, ⟨8, _⟩ => ⟨S100000, .f32⟩
  | .hbm, ⟨9, _⟩ => ⟨S1x100000, .f32⟩
  | .hbm, ⟨10, _⟩ => ⟨S1024x100000, .f32⟩
  | .hbm, ⟨11, _⟩ => ⟨S1024x100000, .f32⟩
  | .hbm, ⟨12, _⟩ => ⟨S1024x100000, .f32⟩
  | .hbm, ⟨13, _⟩ => ⟨S32x100000, .f32⟩
  | .hbm, ⟨14, _⟩ => ⟨S1024x100000, .f32⟩
  | .hbm, ⟨15, _⟩ => ⟨S_, .f32⟩
  | .hbm, ⟨16, _⟩ => ⟨S1024x100000, .f32⟩
  | .hbm, ⟨17, _⟩ => ⟨S1024x100000, .f32⟩
  | .hbm, ⟨18, _⟩ => ⟨S1024x100000, .f32⟩
  | .hbm, ⟨19, _⟩ => ⟨S_, .f32⟩
  | .hbm, ⟨20, _⟩ => ⟨S1024x100000, .f32⟩
  | .hbm, ⟨21, _⟩ => ⟨S1024x100000, .f32⟩
  | .hbm, ⟨22, _⟩ => ⟨S1024x100000, .f32⟩
  | .hbm, ⟨23, _⟩ => ⟨S1024x100000, .i32⟩
  | .hbm, ⟨24, _⟩ => ⟨S_, .f32⟩
  | .hbm, ⟨25, _⟩ => ⟨S_, .i32⟩
  | .hbm, ⟨26, _⟩ => ⟨S1024, .f32⟩
  | .hbm, ⟨27, _⟩ => ⟨S1024, .i32⟩
  | .hbm, ⟨28, _⟩ => ⟨S1024x100000, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S1024x100000, .f32⟩
  | .hbm, ⟨33, _⟩ => ⟨S1024x100000, .f32⟩
  | .hbm, ⟨34, _⟩ => ⟨S1024x100000, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024, .f32⟩
  | .hbm, ⟨39, _⟩ => ⟨S1024, .f32⟩
  | .hbm, ⟨40, _⟩ => ⟨S1024x1, .i32⟩
  | .hbm, ⟨41, _⟩ => ⟨S_, .i32⟩
  | .hbm, ⟨42, _⟩ => ⟨S1024x1, .i32⟩
  | .hbm, ⟨43, _⟩ => ⟨S1024x1, .i1⟩
  | .hbm, ⟨44, _⟩ => ⟨S_, .i32⟩
  | .hbm, ⟨45, _⟩ => ⟨S1024x1, .i32⟩
  | .hbm, ⟨46, _⟩ => ⟨S1024x1, .i32⟩
  | .hbm, ⟨47, _⟩ => ⟨S1024x1, .i32⟩
  | .hbm, ⟨48, _⟩ => ⟨S1024x1x1, .i32⟩
  | .hbm, ⟨49, _⟩ => ⟨S1, .i32⟩
  | .hbm, ⟨50, _⟩ => ⟨S_, .i32⟩
  | .hbm, ⟨51, _⟩ => ⟨S1024x1x1, .i32⟩
  | .hbm, ⟨52, _⟩ => ⟨S1024x1x1, .i1⟩
  | .hbm, ⟨53, _⟩ => ⟨S1x1x1, .i32⟩
  | .hbm, ⟨54, _⟩ => ⟨S1024x1x1, .i32⟩
  | .hbm, ⟨55, _⟩ => ⟨S1024x1x1, .i1⟩
  | .hbm, ⟨56, _⟩ => ⟨S1024x1x1, .i1⟩
  | .hbm, ⟨57, _⟩ => ⟨S_, .i1⟩
  | .hbm, ⟨58, _⟩ => ⟨S1024x1, .i1⟩
  | .hbm, ⟨59, _⟩ => ⟨S1024x1, .f32⟩
  | .hbm, ⟨60, _⟩ => ⟨S_, .f32⟩
  | .hbm, ⟨61, _⟩ => ⟨S1024x1, .f32⟩
  | .hbm, ⟨62, _⟩ => ⟨S1024x1, .f32⟩
  | .hbm, ⟨63, _⟩ => ⟨S1024, .f32⟩
  | .hbm, ⟨64, _⟩ => ⟨S1024, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_cst : Ref sig .tc := ⟨.hbm, 60, rfl⟩
abbrev main_call1_v14 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst_5 : Ref sig .tc := ⟨.hbm, 65, rfl⟩
abbrev main_v32 : Ref sig .tc := ⟨.hbm, 66, rfl⟩
abbrev main_cst_6 : Ref sig .tc := ⟨.hbm, 67, rfl⟩
abbrev main_v33 : Ref sig .tc := ⟨.hbm, 68, rfl⟩

abbrev nD : Nat := 1
abbrev τ : Topo := Topo.v7x

variable {F : FTy → Type} [FloatOps F]
-- ==== Proof.BitsFrame.lean ====
/-
  The kernel as it runs on machine numbers: it ends, leaves its arguments alone and every counter at zero. Nothing is
  said of what it computes, so the scratch arrays and the results are carried at some contents.
-/
module

public import proofs.«01_k».proof.Proof.Gen.Kernel.Skeleton
public import proofs.«01_k».proof.Proof.Gen.Kernel.Frame
public import Idealize.ShloMosaic.Lib.VecWindow
public import Idealize.ShloMosaic.Lib.Claim

@[expose] public section

set_option maxRecDepth 16384

noncomputable section

namespace Cert.BitsFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The first branch's condition at a grid point. -/
abbrev isFirst (i : grid0.Coords) : Prop := (Scalar.cmpi .ne (Scalar.extui (Scalar.cmpi .eq (BitVec.ofNat 32 (i 0).val) 0#32)) 0#32) = 1#1
/-- The second branch's condition at a grid point. -/
abbrev isFull (i : grid0.Coords) : Prop := (Scalar.cmpi .ne (Scalar.extui (Scalar.cmpi .slt (BitVec.ofNat 32 (i 0).val) 24#32)) 0#32) = 1#1
/-- The third branch's condition at a grid point. -/
abbrev isLast (i : grid0.Coords) : Prop := k0_cond3 i = 1#1

set_option maxHeartbeats 1600000 in
/-- The body keeps its two inputs and leaves the other buffers at some contents, at a point of any of the three kinds. -/
theorem run (c : Dev nD) (i : grid0.Coords)
    (arg1 : Memref sig .tc .vmem S1024x32 .f32) (harg1 : arg1.IsWhole) (arg2 : Memref sig .tc .vmem S32x4096 .f32) (harg2 : arg2.IsWhole)
    (arg3 : Memref sig .tc .vmem S1024x1 .i32) (harg3 : arg3.IsWhole) (arg4 : Memref sig .tc .vmem S1x1 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .i32) (harg7 : arg7.IsWhole) (arg8 : Memref sig .tc .vmem S1024x128 .f32) (harg8 : arg8.IsWhole)
    (hc : (isFirst i ∧ isFull i ∧ ¬isLast i) ∨ (¬isFirst i ∧ isFull i ∧ ¬isLast i) ∨ (¬isFirst i ∧ ¬isFull i ∧ isLast i))
    (x0 : Vec F S1024x32 .f32) (x1 : Vec F S32x4096 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ (∃ d, owns (c : Thread nD τ) arg3 fullShare d) ∗ (∃ d, owns (c : Thread nD τ) arg4 fullShare d)
            ∗ (∃ d, owns (c : Thread nD τ) arg5 fullShare d) ∗ (∃ d, owns (c : Thread nD τ) arg6 fullShare d)
            ∗ (∃ d, owns (c : Thread nD τ) arg7 fullShare d) ∗ (∃ d, owns (c : Thread nD τ) arg8 fullShare d)) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  rw [cc0__fused_kernel_eq_skeleton]; unfold cc0__fused_kernel_skel
  rw [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton, k0_part15_eq_skeleton,
    k0_part16_eq_skeleton]
  unfold owns
  iintro ⟨⟨%f0, %hf0, H0⟩, ⟨%f1, %hf1, H1⟩, ⟨%d2, %f2, -, H2⟩, ⟨%d3, %f3, -, H3⟩, ⟨%e0, %fs0, -, HS0⟩, ⟨%e1, %fs1, -, HS1⟩, ⟨%e2, %fs2, -, HS2⟩, ⟨%e3, %fs3, -, HS3⟩, Hk⟩
  obtain rfl := harg1.eq_unread hf0; obtain rfl := harg2.eq_unread hf1
  rcases hc with ⟨hc0, hc1, hc2⟩ | ⟨hc0, hc1, hc2⟩ | ⟨hc0, hc1, hc2⟩
  all_goals
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; iexists _; isplitr; swap; · iexact H2
      ipureintro; rfl
    isplitl [H3]
    · iexists _; iexists _; isplitr; swap; · iexact H3
      ipureintro; rfl
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    iexists _; iexists _; isplitr; swap; · iexact HS3
    ipureintro; rfl

variable (m : (ℓ : Loc nD τ sig) → Buf (Elt F) ℓ) (ρ : Dev nD → PrngReg)

/-- Every point is of one of the three kinds. -/
theorem kinds (t : Fin cfg0.N) :
    (isFirst (grid0.coords t) ∧ isFull (grid0.coords t) ∧ ¬isLast (grid0.coords t))
      ∨ (¬isFirst (grid0.coords t) ∧ isFull (grid0.coords t) ∧ ¬isLast (grid0.coords t))
      ∨ (¬isFirst (grid0.coords t) ∧ ¬isFull (grid0.coords t) ∧ isLast (grid0.coords t)) := by
  revert t; decide +kernel

/-- What the launch hands over: every scratch array at some contents, and the generator register. -/
theorem PhiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d)
        ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The launch's data: the inputs' buffers hold their blocks (of the last, overhanging block the part inside the array,
    zeros past it); of the results' buffers nothing is kept, so zeros are named for them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) (fun _ => Scalar.ofBits .f32 0x00000000#32) (iblk m c 1 t)
    | ⟨2, _⟩ => fun _ => (0#32 : BitVec 32)
    | ⟨3, _⟩ => fun _ => Scalar.ofBits .f32 0x00000000#32
  Φ _ := Pipeline.ΦA spec0 c
  q _ := fullShare
  owed _ := 0

/-- The windows of the results. -/
def results (w : Fin cfg0.W) : Bool := (cfg0.win w).isOut

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) :
    win0_1.cut (grid0.coords t) ((dats m 0 c).after 1 t) = iblk m c 1 t := by
  dsimp only [dats]; exact win0_1.cut_fill _ _ _

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = win0_1.fill (grid0.coords t) d (iblk m c 1 t) := by
  unfold Dat.before; rw [if_pos (fetch0_1 t)]; unfold Dat.fetched Dat.blockOf iblk; rw [A_eq]; try rfl

/-- The staging buffers at a point. -/
abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)

/-- What the body is called with and what it returns, the embeddings' and the centroids' buffers named. -/
def around (c : Dev nD) (t : Fin cfg0.N) : sProp 𝕄 :=
  iprop(Pipeline.ΦA spec0 c ∗ (dats m 0 c).owesAt () t.castSucc
    ∗ owns (c : Thread nD τ) (stg0 t) fullShare (iblk m c 0 t)
    ∗ (∃ d, owns (c : Thread nD τ) (stg1 t) fullShare (win0_1.fill (grid0.coords t) d (iblk m c 1 t)))
    ∗ (∃ d, owns (c : Thread nD τ) (stg2 t) fullShare d)
    ∗ (∃ d, owns (c : Thread nD τ) (stg3 t) fullShare d))

/-- The body at any point. -/
theorem sound_body (c : Dev nD) (t : Fin cfg0.N) :
    around m c t ⊢ wp frame (wpE (defs₀ (F := F)) Variants.none c none) Set.univ (bodyAt0 t) (fun _ => around m c t) := by
  unfold around bodyAt0
  rw [PhiA_eq]
  iintro ⟨⟨⟨HS0, HS1, HS2, HS3⟩, Hg⟩, Ho, H0, ⟨%d1, H1⟩, H2, H3⟩
  iapply (run c (grid0.coords t) _ _ _ _ _ _ _ _ _ _ _ _ _ _ _ _ (kinds t) (iblk m c 0 t) (win0_1.fill (grid0.coords t) d1 (iblk m c 1 t)) Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexists _; iexact H1
  isplitl [H2]; · iexact H2
  iexact H3

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligationLoose (dats (F := F) m 0 c) (defs₀ (F := F)) Variants.none () Set.univ results := fun t => by
  rw [bigSep_W0, bigSep_W0, defs₀_row]
  refine triple_restated (sound_body m c t) rfl ?_ fun _ => ?_
  · show iprop(Pipeline.ΦA spec0 c ∗ (dats m 0 c).owesAt () t.castSucc
      ∗ (∃ d, owns (c : Thread nD τ) (stg0 t) fullShare ((dats m 0 c).before 0 t d))
      ∗ (∃ d, owns (c : Thread nD τ) (stg1 t) fullShare ((dats m 0 c).before 1 t d))
      ∗ (∃ d, owns (c : Thread nD τ) (stg2 t) fullShare d)
      ∗ (∃ d, owns (c : Thread nD τ) (stg3 t) fullShare d)) ⊢ around m c t
    simp only [before_0, before_1]
    unfold around
    iintro ⟨HP, Ho, ⟨%d0, H0⟩, H1, H2, H3⟩
    isplitl [HP]; · iexact HP
    isplitl [Ho]; · iexact Ho
    isplitl [H0]; · iexact H0
    isplitl [H1]; · iexact H1
    isplitl [H2]; · iexact H2
    iexact H3
  · show around m c t ⊢ iprop(Pipeline.ΦA spec0 c ∗ (dats m 0 c).owesAt () t.castSucc
      ∗ owns (c : Thread nD τ) (stg0 t) fullShare ((dats m 0 c).after 0 t)
      ∗ (∃ d, owns (c : Thread nD τ) (stg1 t) fullShare (win0_1.fill (grid0.coords t) d (win0_1.cut (grid0.coords t) ((dats m 0 c).after 1 t))))
      ∗ (∃ d, owns (c : Thread nD τ) (stg2 t) fullShare d)
      ∗ (∃ d, owns (c : Thread nD τ) (stg3 t) fullShare d))
    rw [after_0, after_1]; exact .rfl

/-- The lines after the launch write only their own results. -/
theorem sfx_writes : ∀ ops ∈ ([hostOps1] : List (List (HloOp τ sig (Elt F)))), ∀ op ∈ ops, ∀ b : Ref sig .tc,
    Proc.devRef .tc b ∈ op.writes → b ∈ ({main_v2, main_v3} : Finset (Ref sig .tc)) := by
  intro ops hops op hop b hb
  simp only [List.mem_cons, List.mem_nil_iff, or_false] at hops
  subst hops
  simp only [hostOps1, List.mem_cons, List.mem_nil_iff, or_false] at hop
  rcases hop with rfl | rfl <;>
    simp only [StableHlo.nullary_writes, StableHlo.unary_writes, StableHlo.reshape_writes, Finset.mem_singleton] at hb <;>
    · have := Proc.devRef_injective .tc hb
      subst this; decide

set_option backward.isDefEq.respectTransparency.types false in
set_option maxHeartbeats 800000 in
/-- The launch, with nothing kept of the results. -/
theorem launched : θ_run defs (onTc (τ := τ) (main (F := F))) (s₀ m ρ)
    (fun r => Pipeline.RDat.FramePostR cfg0 (fun c => (dats m 0 c).toRForget results) {main_v2, main_v3} (fun c b => V0 m c (Proc.devRef .tc b)) r
      ∧ r.2.sem = fun _ => 0) :=
  Pipeline.θ_run_frame_around_T_forget (Q' := _) cfgs (dats m) (0 : Fin 1) launch0 defs₀ Variants.none results {main_v2, main_v3} m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
    (h.1.arr_in c 0 rfl).trans ((A_eq m c 0).trans (V_main_arg0 m c)),
    ((h.1 c).2 main_arg1 (by decide)).trans (V_main_arg1 m c)⟩, h.2⟩) (launched m ρ)

end Cert.BitsFrame

end
-- ==== Proof.Chunk.lean ====
/-
  The arithmetic of one block of centroids, as the kernel does it.

  A block is 4096 columns wide and is taken in chunks of 128 columns. For a chunk the kernel forms the distance of every row
  to every column and folds it into a state of three arrays: the least distance met so far in each lane, the number of
  the chunk that attained it, and the sum of the exponentials of the negated distances.
-/
module

public import proofs.«01_k».proof.Proof.Gen.KernelIdeal.Skeleton

@[expose] public section

noncomputable section

namespace Cert.KernelValue

open Cert.KernelIdeal Cert.KernelIdeal.Gen Idealize.ShloMosaic

variable {F : FTy → Type} [FloatOps F] [Named F]

/-- The running state: least distance, number of the chunk that attained it, sum of exponentials. -/
abbrev State (F : FTy → Type) : Type := FVec F S1024x128 .f32 × IVec S1024x128 32 × FVec F S1024x128 .f32

/-- A chunk of the products lies inside the block. -/
theorem slices_wide {k : ℕ} (hk : k < 32) : S1024x4096.Slices ![0, 128 * k] S1024x128 :=
  ⟨rfl, fun a => by
    fin_cases a
    · exact Nat.le_refl 1024
    · show 128 * k + 128 ≤ 4096
      omega⟩

/-- A chunk of the squared norms lies inside the block. -/
theorem slices_row {k : ℕ} (hk : k < 32) : S1x4096.Slices ![0, 128 * k] S1x128 :=
  ⟨rfl, fun a => by
    fin_cases a
    · exact Nat.le_refl 1
    · show 128 * k + 128 ≤ 4096
      omega⟩

/-- The squared distances of chunk `k`: `(|e|² + |c|²) - (e·c + e·c)`. -/
def square (P : FVec F S1024x4096 .f32) (C : FVec F S1x4096 .f32) (e : FVec F S1024x128 .f32) (k : ℕ) (hk : k < 32) :
    FVec F S1024x128 .f32 :=
  subf (addf e (broadcastTo S1024x128 (extractStridedSlice S1x128 ![0, 128 * k] C (slices_row hk)) broadcasts_S1x128_S1024x128))
    (addf (extractStridedSlice S1024x128 ![0, 128 * k] P (slices_wide hk)) (extractStridedSlice S1024x128 ![0, 128 * k] P (slices_wide hk)))

/-- The distances of chunk `k`: the square times its reciprocal square root. -/
def chunk (P : FVec F S1024x4096 .f32) (C : FVec F S1x4096 .f32) (e : FVec F S1024x128 .f32) (k : ℕ) (hk : k < 32) :
    FVec F S1024x128 .f32 :=
  mulf (square P C e k hk) (rsqrt (square P C e k hk))

/-- The distances of the last, partial chunk: lanes from 32 on hold the named bound instead. -/
def edge (P : FVec F S1024x4096 .f32) (C : FVec F S1x4096 .f32) (e : FVec F S1024x128 .f32) : FVec F S1024x128 .f32 :=
  select
    (broadcastTo S1024x128
      (shapeCast S1x128 (cmpi .slt (iota .tc S1x128 32 [1] iota_S1x128_d1_w32) (broadcast S1x128 32#32)) shapeCasts_S1x128_S1x128)
      broadcasts_S1x128_S1024x128)
    (chunk P C e 13 (by decide)) (broadcast S1024x128 (Named.named κ "big" 0x7F61B1E6#32))

/-- The chunk's number in the whole array of centroids, `b` the block's. -/
def number (b : BitVec 32) (k : ℕ) : BitVec 32 := Scalar.addi (Scalar.muli b 32#32) (BitVec.ofNat 32 k)

/-- Fold the distances `d` of the chunk numbered `w` into the state. -/
def fold (w : BitVec 32) (d : FVec F S1024x128 .f32) (s : State F) : State F :=
  (select (cmpf .olt d s.1) d s.1, select (cmpf .olt d s.1) (broadcast S1024x128 w) s.2.1,
    addf s.2.2 (exp (subf (broadcast S1024x128 (Scalar.ofBits .f32 0x00000000#32)) d)))

/-- The state after the first `n` chunks of block `b`. -/
def chunks (P : FVec F S1024x4096 .f32) (C : FVec F S1x4096 .f32) (e : FVec F S1024x128 .f32) (b : BitVec 32) (s : State F) :
    (n : ℕ) → n ≤ 32 → State F
  | 0, _ => s
  | n + 1, h => fold (number b n) (chunk P C e n h) (chunks P C e b s n (Nat.le_of_succ_le h))

/-- The state a whole block leaves. -/
def block (x0 : FVec F S1024x32 .f32) (x1 : FVec F S32x4096 .f32) (e : FVec F S1024x128 .f32) (b : BitVec 32) (s : State F) :
    State F :=
  chunks (k0_pay6 x0 x1) (k0_pay7 x1) e b s 32 (Nat.le_refl 32)

/-- The state the last, partial block leaves: thirteen chunks and the masked one. -/
def lastBlock (x0 : FVec F S1024x32 .f32) (x1 : FVec F S32x4096 .f32) (e : FVec F S1024x128 .f32) (b : BitVec 32) (s : State F) :
    State F :=
  fold (number b 13) (edge (k0_pay6 x0 x1) (k0_pay7 x1) e) (chunks (k0_pay6 x0 x1) (k0_pay7 x1) e b s 13 (by decide))

/-- The least distance of each row: the least of its lanes. -/
def least (s : State F) : FVec F S1024x1 .f32 := k0_pay12 s.1

/-- The label of each row: the least column among the lanes that hold the row's least distance. -/
def labels (s : State F) : IVec S1024x1 32 :=
  shapeCast S1024x1
    (multiReductionI .minsi [1] S1024
      (select (cmpf .oeq s.1 (broadcastTo S1024x128 (least s) broadcasts_S1024x1_S1024x128))
        (addi (muli s.2.1 (broadcast S1024x128 128#32)) (iota .tc S1024x128 32 [1] iota_S1024x128_d1_w32))
        (broadcast S1024x128 2147483647#32))
      2147483647#32 reduces_S1024x128_S1024 rfl)
    shapeCasts_S1024_S1024x1

/-- The loss: the mean over the rows of the logarithm of the sum of exponentials plus the least distance. -/
def loss (s : State F) : FVec F S1x1 .f32 := k0_pay14 s.2.2 s.1

/-- The state before the first block. -/
def start : State F := (k0_pay2, k0_pay3, k0_pay4)

end Cert.KernelValue

end
-- ==== Proof.BlockRun.lean ====
/-
  One grid point of the kernel run on its memory, for the points strictly between the first and the last.
-/
module

public import proofs.«01_k».proof.Proof.Chunk
public import proofs.«01_k».proof.Proof.Gen.KernelIdeal.Frame
public import Idealize.ShloMosaic.Lib.VecWindow
public import Idealize.ShloMosaic.Lib.Pipeline.Value

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The first branch's condition at a grid point. -/
abbrev isFirst (i : grid0.Coords) : Prop := (Scalar.cmpi .ne (Scalar.extui (Scalar.cmpi .eq (BitVec.ofNat 32 (i 0).val) 0#32)) 0#32) = 1#1
/-- The second branch's condition at a grid point. -/
abbrev isFull (i : grid0.Coords) : Prop := (Scalar.cmpi .ne (Scalar.extui (Scalar.cmpi .slt (BitVec.ofNat 32 (i 0).val) 24#32)) 0#32) = 1#1
/-- The third branch's condition at a grid point. -/
abbrev isLast (i : grid0.Coords) : Prop := k0_cond3 i = 1#1

set_option maxHeartbeats 1600000 in
theorem run_middle (c : Dev nD) (i : grid0.Coords)
    (arg1 : Memref sig .tc .vmem S1024x32 .f32) (harg1 : arg1.IsWhole) (arg2 : Memref sig .tc .vmem S32x4096 .f32) (harg2 : arg2.IsWhole)
    (arg3 : Memref sig .tc .vmem S1024x1 .i32) (harg3 : arg3.IsWhole) (arg4 : Memref sig .tc .vmem S1x1 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .i32) (harg7 : arg7.IsWhole) (arg8 : Memref sig .tc .vmem S1024x128 .f32) (harg8 : arg8.IsWhole)
    (hc0 : ¬isFirst i) (hc1 : isFull i) (hc2 : ¬isLast i)
    (x0 : Vec F S1024x32 .f32) (x1 : Vec F S32x4096 .f32) (e : Vec F S1024x128 .f32) (s : State F)
    (E : Set ℕ) (K : PUnit → sProp 𝕄) :
    iprop(owns (c : Thread nD τ) arg1 fullShare x0 ∗ owns (c : Thread nD τ) arg2 fullShare x1
        ∗ owns (c : Thread nD τ) arg5 fullShare e ∗ owns (c : Thread nD τ) arg6 fullShare s.1
        ∗ owns (c : Thread nD τ) arg7 fullShare s.2.1 ∗ owns (c : Thread nD τ) arg8 fullShare s.2.2
        ∗ (iprop(owns (c : Thread nD τ) arg1 fullShare x0 ∗ owns (c : Thread nD τ) arg2 fullShare x1
            ∗ owns (c : Thread nD τ) arg5 fullShare e
            ∗ owns (c : Thread nD τ) arg6 fullShare (block x0 x1 e (BitVec.ofNat 32 (i 0).val) s).1
            ∗ owns (c : Thread nD τ) arg7 fullShare (block x0 x1 e (BitVec.ofNat 32 (i 0).val) s).2.1
            ∗ owns (c : Thread nD τ) arg8 fullShare (block x0 x1 e (BitVec.ofNat 32 (i 0).val) s).2.2) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1
  obtain rfl := harg5.eq_unread hfs0; obtain rfl := harg6.eq_unread hfs1; obtain rfl := harg7.eq_unread hfs2; obtain rfl := harg8.eq_unread hfs3
  have r0 : View.readAt (Elt F) arg1.view (Rect.unit ![0, 0] ![1024, 32] inb_S1024x32_S1024x32_0_0).toLoadRect (harg1.unread x0) = x0 :=
    (View.readAt_full ..).trans hf0
  have r1 : View.readAt (Elt F) arg2.view (Rect.unit ![0, 0] ![32, 4096] inb_S32x4096_S32x4096_0_0).toLoadRect (harg2.unread x1) = x1 :=
    (View.readAt_full ..).trans hf1
  have re : View.readAt (Elt F) arg5.view (Rect.unit ![0, 0] ![1024, 128] inb_S1024x128_S1024x128_0_0).toLoadRect (harg5.unread e) = e :=
    (View.readAt_full ..).trans hfs0
  have s1 : View.readAt (Elt F) arg6.view (Rect.unit ![0, 0] ![1024, 128] inb_S1024x128_S1024x128_0_0).toLoadRect (harg6.unread s.1) = s.1 :=
    (View.readAt_full ..).trans hfs1
  have s2 : View.readAt (Elt F) arg7.view (Rect.unit ![0, 0] ![1024, 128] inb_S1024x128_S1024x128_0_0).toLoadRect (harg7.unread s.2.1) = s.2.1 :=
    (View.readAt_full ..).trans hfs2
  have s3 : View.readAt (Elt F) arg8.view (Rect.unit ![0, 0] ![1024, 128] inb_S1024x128_S1024x128_0_0).toLoadRect (harg8.unread s.2.2) = s.2.2 :=
    (View.readAt_full ..).trans hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; · ipureintro; exact harg5.read_unread _
    iexact HS0
  isplitl [HS1]
  · iexists _; isplitr; swap; · iexact HS1
    ipureintro
    refine (View.read_writes_full ..).trans ?_
    dsimp only [k0_pay9]; rw [shapeCast_self]
    sl_kernel_rfl
  isplitl [HS2]
  · iexists _; isplitr; swap; · iexact HS2
    ipureintro
    refine (View.read_writes_full ..).trans ?_
    dsimp only [k0_pay10]; rw [shapeCast_self]
    sl_kernel_rfl
  · iexists _; isplitr; swap; · iexact HS3
    ipureintro
    refine (View.read_writes_full ..).trans ?_
    dsimp only [k0_pay11]; rw [shapeCast_self]
    sl_kernel_rfl

set_option maxHeartbeats 1600000 in
theorem run_first (c : Dev nD) (i : grid0.Coords)
    (arg1 : Memref sig .tc .vmem S1024x32 .f32) (harg1 : arg1.IsWhole) (arg2 : Memref sig .tc .vmem S32x4096 .f32) (harg2 : arg2.IsWhole)
    (arg3 : Memref sig .tc .vmem S1024x1 .i32) (harg3 : arg3.IsWhole) (arg4 : Memref sig .tc .vmem S1x1 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .i32) (harg7 : arg7.IsWhole) (arg8 : Memref sig .tc .vmem S1024x128 .f32) (harg8 : arg8.IsWhole)
    (hc0 : isFirst i) (hc1 : isFull i) (hc2 : ¬isLast i)
    (x0 : Vec F S1024x32 .f32) (x1 : Vec F S32x4096 .f32) (e0 m0 s0 : Vec F S1024x128 .f32) (i0 : Vec F S1024x128 .i32)
    (E : Set ℕ) (K : PUnit → sProp 𝕄) :
    iprop(owns (c : Thread nD τ) arg1 fullShare x0 ∗ owns (c : Thread nD τ) arg2 fullShare x1
        ∗ owns (c : Thread nD τ) arg5 fullShare e0 ∗ owns (c : Thread nD τ) arg6 fullShare m0
        ∗ owns (c : Thread nD τ) arg7 fullShare i0 ∗ owns (c : Thread nD τ) arg8 fullShare s0
        ∗ (iprop(owns (c : Thread nD τ) arg1 fullShare x0 ∗ owns (c : Thread nD τ) arg2 fullShare x1
            ∗ owns (c : Thread nD τ) arg5 fullShare (k0_pay1 x0)
            ∗ owns (c : Thread nD τ) arg6 fullShare (block x0 x1 (k0_pay1 x0) (BitVec.ofNat 32 (i 0).val) start).1
            ∗ owns (c : Thread nD τ) arg7 fullShare (block x0 x1 (k0_pay1 x0) (BitVec.ofNat 32 (i 0).val) start).2.1
            ∗ owns (c : Thread nD τ) arg8 fullShare (block x0 x1 (k0_pay1 x0) (BitVec.ofNat 32 (i 0).val) start).2.2) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f0, %hf0, H0⟩, ⟨%f1, %hf1, H1⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1
  have r0 : View.readAt (Elt F) arg1.view (Rect.unit ![0, 0] ![1024, 32] inb_S1024x32_S1024x32_0_0).toLoadRect (harg1.unread x0) = x0 :=
    (View.readAt_full ..).trans hf0
  have r1 : View.readAt (Elt F) arg2.view (Rect.unit ![0, 0] ![32, 4096] inb_S32x4096_S32x4096_0_0).toLoadRect (harg2.unread x1) = x1 :=
    (View.readAt_full ..).trans hf1
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [HS0]
  · iexists _; isplitr; swap; · iexact HS0
    ipureintro
    exact View.read_writes_full ..
  have ve : run_first.sl.v10 c arg5 x0 = k0_pay1 x0 := View.readCov_full ..
  have v1 : run_first.sl.v11 c arg6 = k0_pay2 (F := F) := View.readCov_full ..
  have v2 : run_first.sl.v12 (F := F) c arg7 = k0_pay3 := View.readCov_full ..
  have v3 : run_first.sl.v13 c arg8 = k0_pay4 (F := F) := View.readCov_full ..
  have vs : ((run_first.sl.v11 c arg6, run_first.sl.v12 (F := F) c arg7, run_first.sl.v13 c arg8) : State F) = start := by
    rw [v1, v2, v3]; rfl
  isplitl [HS1]
  · iexists _; isplitr; swap; · iexact HS1
    ipureintro
    refine (View.read_writes_full ..).trans ?_
    dsimp only [k0_pay9]; rw [shapeCast_self, ← ve, ← vs]
    sl_kernel_rfl
  isplitl [HS2]
  · iexists _; isplitr; swap; · iexact HS2
    ipureintro
    refine (View.read_writes_full ..).trans ?_
    dsimp only [k0_pay10]; rw [shapeCast_self, ← ve, ← vs]
    sl_kernel_rfl
  · iexists _; isplitr; swap; · iexact HS3
    ipureintro
    refine (View.read_writes_full ..).trans ?_
    dsimp only [k0_pay11]; rw [shapeCast_self, ← ve, ← vs]
    sl_kernel_rfl

set_option maxHeartbeats 1600000 in
theorem run_last (c : Dev nD) (i : grid0.Coords)
    (arg1 : Memref sig .tc .vmem S1024x32 .f32) (harg1 : arg1.IsWhole) (arg2 : Memref sig .tc .vmem S32x4096 .f32) (harg2 : arg2.IsWhole)
    (arg3 : Memref sig .tc .vmem S1024x1 .i32) (harg3 : arg3.IsWhole) (arg4 : Memref sig .tc .vmem S1x1 .f32) (harg4 : arg4.IsWhole)
    (arg5 : Memref sig .tc .vmem S1024x128 .f32) (harg5 : arg5.IsWhole) (arg6 : Memref sig .tc .vmem S1024x128 .f32) (harg6 : arg6.IsWhole)
    (arg7 : Memref sig .tc .vmem S1024x128 .i32) (harg7 : arg7.IsWhole) (arg8 : Memref sig .tc .vmem S1024x128 .f32) (harg8 : arg8.IsWhole)
    (hc0 : ¬isFirst i) (hc1 : ¬isFull i) (hc2 : isLast i)
    (x0 : Vec F S1024x32 .f32) (x1 : Vec F S32x4096 .f32) (l0 : Vec F S1024x1 .i32) (t0 : Vec F S1x1 .f32) (e : Vec F S1024x128 .f32) (s : State F)
    (E : Set ℕ) (K : PUnit → sProp 𝕄) :
    iprop(owns (c : Thread nD τ) arg1 fullShare x0 ∗ owns (c : Thread nD τ) arg2 fullShare x1
        ∗ owns (c : Thread nD τ) arg3 fullShare l0 ∗ owns (c : Thread nD τ) arg4 fullShare t0
        ∗ owns (c : Thread nD τ) arg5 fullShare e ∗ owns (c : Thread nD τ) arg6 fullShare s.1
        ∗ owns (c : Thread nD τ) arg7 fullShare s.2.1 ∗ owns (c : Thread nD τ) arg8 fullShare s.2.2
        ∗ (iprop(owns (c : Thread nD τ) arg1 fullShare x0 ∗ owns (c : Thread nD τ) arg2 fullShare x1
            ∗ owns (c : Thread nD τ) arg3 fullShare (labels (lastBlock x0 x1 e (BitVec.ofNat 32 (i 0).val) s))
            ∗ owns (c : Thread nD τ) arg4 fullShare (loss (lastBlock x0 x1 e (BitVec.ofNat 32 (i 0).val) s))
            ∗ owns (c : Thread nD τ) arg5 fullShare e
            ∗ owns (c : Thread nD τ) arg6 fullShare s.1
            ∗ owns (c : Thread nD τ) arg7 fullShare s.2.1
            ∗ owns (c : Thread nD τ) arg8 fullShare s.2.2) -∗ K ⟨⟩))
      ⊢ wp frame (wpE (defs₀ (F := F)) Variants.none c none) E
          (cc0__fused_kernel i arg1 harg1 arg2 harg2 arg3 harg3 arg4 harg4 arg5 harg5 arg6 harg6 arg7 harg7 arg8 harg8) K := by
  simp only [cc0__fused_kernel_eq_skeleton]; unfold cc0__fused_kernel_skel
  rw [k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, -, H2⟩, ⟨%f3, -, H3⟩, ⟨%fs0, %hfs0, HS0⟩, ⟨%fs1, %hfs1, HS1⟩, ⟨%fs2, %hfs2, HS2⟩, ⟨%fs3, %hfs3, HS3⟩, Hk⟩
  obtain rfl := harg1.eq_unread hf0; obtain rfl := harg2.eq_unread hf1
  obtain rfl := harg5.eq_unread hfs0; obtain rfl := harg6.eq_unread hfs1; obtain rfl := harg7.eq_unread hfs2; obtain rfl := harg8.eq_unread hfs3
  have r0 : View.readAt (Elt F) arg1.view (Rect.unit ![0, 0] ![1024, 32] inb_S1024x32_S1024x32_0_0).toLoadRect (harg1.unread x0) = x0 :=
    (View.readAt_full ..).trans hf0
  have r1 : View.readAt (Elt F) arg2.view (Rect.unit ![0, 0] ![32, 4096] inb_S32x4096_S32x4096_0_0).toLoadRect (harg2.unread x1) = x1 :=
    (View.readAt_full ..).trans hf1
  have re : View.readAt (Elt F) arg5.view (Rect.unit ![0, 0] ![1024, 128] inb_S1024x128_S1024x128_0_0).toLoadRect (harg5.unread e) = e :=
    (View.readAt_full ..).trans hfs0
  have s1 : View.readAt (Elt F) arg6.view (Rect.unit ![0, 0] ![1024, 128] inb_S1024x128_S1024x128_0_0).toLoadRect (harg6.unread s.1) = s.1 :=
    (View.readAt_full ..).trans hfs1
  have s2 : View.readAt (Elt F) arg7.view (Rect.unit ![0, 0] ![1024, 128] inb_S1024x128_S1024x128_0_0).toLoadRect (harg7.unread s.2.1) = s.2.1 :=
    (View.readAt_full ..).trans hfs2
  have s3 : View.readAt (Elt F) arg8.view (Rect.unit ![0, 0] ![1024, 128] inb_S1024x128_S1024x128_0_0).toLoadRect (harg8.unread s.2.2) = s.2.2 :=
    (View.readAt_full ..).trans hfs3
  sl_exec (disch := first | sl_exact hc0 | sl_exact hc1 | sl_exact hc2)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro
    refine (View.read_writes_full ..).trans ?_
    sl_kernel_rfl
  isplitl [H3]
  · iexists _; isplitr; swap; · iexact H3
    ipureintro
    refine (View.read_writes_full ..).trans ?_
    sl_kernel_rfl
  isplitl [HS0]
  · iexists _; isplitr; · ipureintro; exact harg5.read_unread _
    iexact HS0
  isplitl [HS1]
  · iexists _; isplitr; · ipureintro; exact harg6.read_unread _
    iexact HS1
  isplitl [HS2]
  · iexists _; isplitr; · ipureintro; exact harg7.read_unread _
    iexact HS2
  · iexists _; isplitr; · ipureintro; exact harg8.read_unread _
    iexact HS3

end Cert.KernelValue

end
-- ==== Proof.GridRun.lean ====
/-
  The kernel's twenty-five grid points in sequence, and the launch.

  The scratch arrays carry the squared norms of the embeddings and the running state from point to point. The last block
  of centroids overhangs the array; what lies past the end there is not determined, so the launch is stated for value types
  at which the last block's state does not depend on it (`Edge`).
-/
module

public import proofs.«01_k».proof.Proof.BlockRun
public import Idealize.ShloMosaic.Lib.Claim

@[expose] public section

set_option maxRecDepth 16384

noncomputable section

namespace Cert.KernelValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

/-- Two blocks that agree on the columns inside the array leave the same state at the last point. -/
def Edge (F : FTy → Type) [FloatOps F] [Named F] : Prop :=
  ∀ (x0 : FVec F S1024x32 .f32) (X X' : FVec F S32x4096 .f32) (e : FVec F S1024x128 .f32) (b : BitVec 32) (s : State F),
    (∀ j, (j 1).val < 1696 → X j = X' j) → lastBlock x0 X e b s = lastBlock x0 X' e b s

variable (m : (ℓ : Loc nD τ sig) → Buf (Elt F) ℓ) (ρ : Dev nD → PrngReg)

/-! ## Which points take which branch -/

theorem first_iff (t : Fin cfg0.N) : isFirst (grid0.coords t) ↔ t.val = 0 := by
  revert t; decide +kernel
theorem full_iff (t : Fin cfg0.N) : isFull (grid0.coords t) ↔ t.val < 24 := by
  revert t; decide +kernel
theorem last_iff (t : Fin cfg0.N) : isLast (grid0.coords t) ↔ t.val = 24 := by
  revert t; decide +kernel

theorem idle_labels (t : Fin cfg0.N) (ht : t.val < 24) : cfg0.idle 2 (grid0.coords t) = true := by
  revert t; decide +kernel
theorem idle_loss (t : Fin cfg0.N) (ht : t.val < 24) : cfg0.idle 3 (grid0.coords t) = true := by
  revert t; decide +kernel
theorem live_labels (t : Fin cfg0.N) (ht : t.val = 24) : cfg0.idle 2 (grid0.coords t) = false := by
  revert t; decide +kernel
theorem live_loss (t : Fin cfg0.N) (ht : t.val = 24) : cfg0.idle 3 (grid0.coords t) = false := by
  revert t; decide +kernel
theorem keep_labels (t : Fin cfg0.N) (ht : t.val < 24) : (cfg0.win 2).flush t = false := by
  have := fetch0_0 t
  revert t; decide +kernel
theorem keep_loss (t : Fin cfg0.N) (ht : t.val < 24) : (cfg0.win 3).flush t = false := by
  revert t; decide +kernel

/-! ## The block of centroids at a point -/

/-- The block of centroids at point `t`; past the array's end it holds zeros. -/
def centroids (c : Dev nD) (t : Fin cfg0.N) : FVec F S32x4096 .f32 :=
  win0_1.fill (grid0.coords t) (fun _ => Scalar.ofBits .f32 0x00000000#32) (iblk m c 1 t)

theorem uncut (t : Fin cfg0.N) (ht : t.val < 24) : ∀ a, (cfg0.win 1).clip (cfg0.grid.coords t) a = none := by
  revert t; decide +kernel

theorem moved_last (t : Fin cfg0.N) (ht : t.val = 24) : ∀ a, win0_1.xsize (grid0.coords t) a = ![32, 1696] a := by
  revert t; decide +kernel

/-- Before the last point the buffer holds the block whatever it held before. -/
theorem fill_full (c : Dev nD) (t : Fin cfg0.N) (ht : t.val < 24) (d : Vec F S32x4096 .f32) :
    win0_1.fill (grid0.coords t) d (iblk m c 1 t) = centroids m c t :=
  Pipeline.fill_of_clip_none (cfg := cfg0) 1 (grid0.coords t) (uncut t ht) d _ (iblk m c 1 t)

/-- At the last point it does on the columns inside the array. -/
theorem fill_last (c : Dev nD) (t : Fin cfg0.N) (ht : t.val = 24) (d : Vec F S32x4096 .f32) (j : S32x4096.Idx) (hj : (j 1).val < 1696) :
    win0_1.fill (grid0.coords t) d (iblk m c 1 t) j = centroids m c t j := by
  have hm : win0_1.moved (grid0.coords t) j = true := (win0_1.moved_iff _ j).mpr fun a => by
    rw [moved_last t ht a]
    fin_cases a
    · exact (j 0).isLt
    · exact hj
  unfold centroids Window.fill
  rw [dif_pos hm, dif_pos hm]

/-! ## The state point by point -/

/-- The squared norms of the embeddings, in every lane. -/
def norms (c : Dev nD) : FVec F S1024x128 .f32 := k0_pay1 (iblk m c 0 ⟨0, by decide⟩)

/-- The state before point `n`. -/
def before (c : Dev nD) : (n : ℕ) → n ≤ cfg0.N → State F
  | 0, _ => start
  | n + 1, h => block (iblk m c 0 ⟨n, h⟩) (centroids m c ⟨n, h⟩) (norms m c) (BitVec.ofNat 32 (grid0.coords ⟨n, h⟩ 0).val)
      (before c n (Nat.le_of_succ_le h))

/-- The last point. -/
def lastPoint : Fin cfg0.N := ⟨24, by decide⟩

/-- The state the last point makes. -/
def final (c : Dev nD) : State F :=
  lastBlock (iblk m c 0 lastPoint) (centroids m c lastPoint) (norms m c) (BitVec.ofNat 32 (grid0.coords lastPoint 0).val)
    (before m c 24 (by decide))

/-- The scratch arrays. -/
abbrev scratch0 : Memref sig .tc .vmem S1024x128 .f32 := Memref.whole cc0_scratch0
abbrev scratch1 : Memref sig .tc .vmem S1024x128 .f32 := Memref.whole cc0_scratch1
abbrev scratch2 : Memref sig .tc .vmem S1024x128 .i32 := Memref.whole cc0_scratch2
abbrev scratch3 : Memref sig .tc .vmem S1024x128 .f32 := Memref.whole cc0_scratch3

/-- What the launch hands over: every scratch array at some contents, and the generator register. -/
theorem PhiA_eq (c : Dev nD) : (Pipeline.ΦA spec0 c : sProp 𝕄)
    = iprop(iprop((∃ d, owns (c : Thread nD τ) scratch0 fullShare d) ∗ (∃ d, owns (c : Thread nD τ) scratch1 fullShare d)
        ∗ (∃ d, owns (c : Thread nD τ) scratch2 fullShare d) ∗ (∃ d, owns (c : Thread nD τ) scratch3 fullShare d)) ∗ (∃ r, prngReg c r)) := by
  unfold Pipeline.ΦA; rw [scopedRest0_eq]; simp only [scratch0, scratch1, scratch2, scratch3, owns_whole]; try rfl

/-- The scratch arrays holding the norms and a state, and the generator register. -/
def holds (c : Dev nD) (s : State F) : sProp 𝕄 :=
  iprop(iprop(owns (c : Thread nD τ) scratch0 fullShare (norms m c) ∗ owns (c : Thread nD τ) scratch1 fullShare s.1
    ∗ owns (c : Thread nD τ) scratch2 fullShare s.2.1 ∗ owns (c : Thread nD τ) scratch3 fullShare s.2.2) ∗ (∃ r, prngReg c r))

/-- The invariant before point `n`. The last point leaves the scratch arrays as it found them. -/
def inv (c : Dev nD) (n : ℕ) : sProp 𝕄 :=
  if n = 0 then Pipeline.ΦA spec0 c else holds m c (before m c (min n 24) (Nat.le_trans (Nat.min_le_right _ _) (by decide)))

theorem inv_zero (c : Dev nD) (n : ℕ) (h : n = 0) : inv m c n = Pipeline.ΦA spec0 c := if_pos h
theorem inv_le (c : Dev nD) (n : ℕ) (h0 : n ≠ 0) (h : n ≤ 24) : inv m c n = holds m c (before m c n (Nat.le_trans h (by decide))) := by
  unfold inv; rw [if_neg h0]; congr 2; omega
theorem inv_last (c : Dev nD) : inv m c 25 = holds m c (before m c 24 (by decide)) := rfl

/-- The launch's data: what the body leaves in each window's buffer, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => centroids m c t
    | ⟨2, _⟩ => labels (final m c)
    | ⟨3, _⟩ => loss (final m c)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = centroids m c t := by dsimp only [dats]
theorem after_2 (c : Dev nD) (t : Fin cfg0.N) : (dats m 0 c).after 2 t = labels (final m c) := by dsimp only [dats]
theorem after_3 (c : Dev nD) (t : Fin cfg0.N) : (dats m 0 c).after 3 t = loss (final m c) := by dsimp only [dats]

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = win0_1.fill (grid0.coords t) d (iblk m c 1 t) := by
  unfold Dat.before; rw [if_pos (fetch0_1 t)]; unfold Dat.fetched Dat.blockOf iblk; rw [A_eq]; try rfl

/-! ## The body at a point -/

/-- The staging buffers at a point. -/
abbrev stg0 (t : Fin cfg0.N) := win0_0.stage (cfg0.slots t 0)
abbrev stg1 (t : Fin cfg0.N) := win0_1.stage (cfg0.slots t 1)
abbrev stg2 (t : Fin cfg0.N) := win0_2.stage (cfg0.slots t 2)
abbrev stg3 (t : Fin cfg0.N) := win0_3.stage (cfg0.slots t 3)

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t
    ∗ (dats m 0 c).leaves 1 t
    ∗ (dats m 0 c).leaves 2 t
    ∗ (dats m 0 c).leaves 3 t)

theorem leaves_0 (c : Dev nD) (t : Fin cfg0.N) :
    (dats m 0 c).leaves 0 t = owns (c : Thread nD τ) (stg0 t) fullShare (iblk m c 0 t) := by
  rw [← after_0 m c t]
theorem leaves_1 (c : Dev nD) (t : Fin cfg0.N) :
    (dats m 0 c).leaves 1 t = iprop(∃ d, owns (c : Thread nD τ) (stg1 t) fullShare (win0_1.fill (grid0.coords t) d (iblk m c 1 t))) := by
  have h : win0_1.cut (grid0.coords t) (centroids m c t) = iblk m c 1 t := win0_1.cut_fill _ _ _
  rw [← h, ← after_1 m c t]
theorem leaves_2 (c : Dev nD) (t : Fin cfg0.N) (ht : t.val = 24) :
    (dats m 0 c).leaves 2 t = owns (c : Thread nD τ) (stg2 t) fullShare (labels (final m c)) := by
  unfold Dat.leaves; rw [live_labels t ht, ← after_2 m c t]
theorem leaves_3 (c : Dev nD) (t : Fin cfg0.N) (ht : t.val = 24) :
    (dats m 0 c).leaves 3 t = owns (c : Thread nD τ) (stg3 t) fullShare (loss (final m c)) := by
  unfold Dat.leaves; rw [live_loss t ht, ← after_3 m c t]

set_option maxHeartbeats 1600000 in
/-- The body at any point takes the invariant to the next point's. -/
theorem sound_body (hedge : Edge F) (c : Dev nD) (t : Fin cfg0.N) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  unfold bodyPre bodyPost bodyAt0
  simp only [before_0, before_1]
  rw [show (dats m 0 c).owesAt () t.succ = (dats m 0 c).owesAt () t.castSucc from rfl,
    show (dats m 0 c).Φ t.castSucc = inv m c t.val from rfl, show (dats m 0 c).Φ t.succ = inv m c (t.val + 1) from rfl,
    leaves_0, leaves_1]
  by_cases h1 : t.val < 24
  · rw [Dat.leaves_idle (dats m 0 c) 2 t (idle_labels t h1) (keep_labels t h1),
      Dat.leaves_idle (dats m 0 c) 3 t (idle_loss t h1) (keep_loss t h1), inv_le m c (t.val + 1) (by omega) (by omega)]
    by_cases h0 : t.val = 0
    · have e0 : t = ⟨0, by decide⟩ := Fin.ext h0
      rw [inv_zero m c _ h0, PhiA_eq]; unfold holds
      iintro ⟨⟨⟨⟨%a0, HS0⟩, ⟨%a1, HS1⟩, ⟨%a2, HS2⟩, ⟨%a3, HS3⟩⟩, Hg⟩, Ho, ⟨%d0, H0⟩, ⟨%d1, H1⟩, ⟨%d2, H2⟩, ⟨%d3, H3⟩⟩
      rw [fill_full m c t h1 d1]
      iapply (run_first c (grid0.coords t) _ _ _ _ _ _ _ _ _ _ _ _ _ _ _ _ ((first_iff t).mpr h0) ((full_iff t).mpr h1)
        (fun h => absurd ((last_iff t).mp h) (by omega)) (iblk m c 0 t) (centroids m c t) a0 a1 a3 a2 Set.univ _)
      isplitl [H0]; · iexact H0
      isplitl [H1]; · iexact H1
      isplitl [HS0]; · iexact HS0
      isplitl [HS1]; · iexact HS1
      isplitl [HS2]; · iexact HS2
      isplitl [HS3]; · iexact HS3
      iintro ⟨H0, H1, HS0, HS1, HS2, HS3⟩
      subst e0
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · rw [← fill_full m c ⟨0, by decide⟩ h1 d1]; iexists _; iexact H1
      isplitl [H2]; · iexists _; iexact H2
      iexists _; iexact H3
    · rw [inv_le m c t.val h0 (by omega)]; unfold holds
      iintro ⟨⟨⟨HS0, HS1, HS2, HS3⟩, Hg⟩, Ho, ⟨%d0, H0⟩, ⟨%d1, H1⟩, ⟨%d2, H2⟩, ⟨%d3, H3⟩⟩
      rw [fill_full m c t h1 d1]
      iapply (run_middle c (grid0.coords t) _ _ _ _ _ _ _ _ _ _ _ _ _ _ _ _ (fun h => h0 ((first_iff t).mp h)) ((full_iff t).mpr h1)
        (fun h => absurd ((last_iff t).mp h) (by omega)) (iblk m c 0 t) (centroids m c t) (norms m c) (before m c t.val (Nat.le_of_lt t.isLt)) Set.univ _)
      isplitl [H0]; · iexact H0
      isplitl [H1]; · iexact H1
      isplitl [HS0]; · iexact HS0
      isplitl [HS1]; · iexact HS1
      isplitl [HS2]; · iexact HS2
      isplitl [HS3]; · iexact HS3
      iintro ⟨H0, H1, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · rw [← fill_full m c t h1 d1]; iexists _; iexact H1
      isplitl [H2]; · iexists _; iexact H2
      iexists _; iexact H3
  · have h2 : t.val = 24 := by omega
    have e2 : t = lastPoint := Fin.ext h2
    rw [leaves_2 m c t h2, leaves_3 m c t h2, h2, inv_last, inv_le m c 24 (by decide) (Nat.le_refl _)]; unfold holds
    iintro ⟨⟨⟨HS0, HS1, HS2, HS3⟩, Hg⟩, Ho, ⟨%d0, H0⟩, ⟨%d1, H1⟩, ⟨%d2, H2⟩, ⟨%d3, H3⟩⟩
    have hf : lastBlock (iblk m c 0 t) (win0_1.fill (grid0.coords t) d1 (iblk m c 1 t)) (norms m c) (BitVec.ofNat 32 (grid0.coords t 0).val)
        (before m c 24 (by decide)) = final m c := by
      rw [hedge _ _ (centroids m c t) _ _ _ (fill_last m c t h2 d1), e2]; rfl
    iapply (run_last c (grid0.coords t) _ _ _ _ _ _ _ _ _ _ _ _ _ _ _ _ (fun h => absurd ((first_iff t).mp h) (by omega))
      (fun h => absurd ((full_iff t).mp h) h1) ((last_iff t).mpr h2) (iblk m c 0 t) (win0_1.fill (grid0.coords t) d1 (iblk m c 1 t))
      _ _ (norms m c) (before m c 24 (by decide)) Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    isplitl [HS3]; · iexact HS3
    rw [hf]
    iintro ⟨H0, H1, H2, H3, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexists _; iexact H1
    isplitl [H2]; · iexact H2
    iexact H3

/-- The body table's row at a point is the body. -/
theorem defs₀_row (t : Fin cfg0.N) : defs₀ (F := F) .tc cfg0.body (cfg0.bodyArgs t (cfg0.slots t)) = bodyAt0 t := by
  unfold defs₀; rw [Defs.onTc_tc]

theorem body_obligation (hedge : Edge F) (c : Dev nD) :
    BodyObligationLoose (dats (F := F) m 0 c) (defs₀ (F := F)) Variants.none () Set.univ := fun t => by
  rw [bigSep_W0, bigSep_W0, defs₀_row]
  exact triple_restated (sound_body m hedge c t) rfl .rfl fun _ => .rfl

theorem hin (c : Dev nD) : Pipeline.ΦA spec0 c ⊢ (dats m 0 c).Φ 0 := by
  rw [show (dats m 0 c).Φ 0 = inv m c 0 from rfl, inv_zero m c 0 rfl]
  try exact Idealize.SL.BI.Entails.refl _

theorem hout (c : Dev nD) : (dats m 0 c).Φ (Fin.last cfg0.N) ⊢ Pipeline.ΦA spec0 c := by
  rw [show (dats m 0 c).Φ (Fin.last cfg0.N) = inv m c 25 from rfl, inv_last, PhiA_eq]; unfold holds
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexists _; iexact HS2
    iexists _; iexact HS3
  iexact Hg

set_option backward.isDefEq.respectTransparency.types false in
set_option maxHeartbeats 800000 in
/-- The launch: every run ends with the arrays at what the data say and every counter at zero. -/
theorem launched (hedge : Edge F) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m hedge c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The arguments end unchanged and every counter at zero. -/
theorem frame (hedge : Edge F) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (launched m ρ hedge)))
    ((θ_run defs _ _).mono (fun _ h => h.2) (launched m ρ hedge))

end Cert.KernelValue

end
-- ==== Proof.ChunkValue.lean ====
/-
  The arithmetic of one chunk over the extended reals, entry by entry.

  The entry of a chunk at a row and a lane is the distance the kernel forms for that row and that column: the squared norms'
  sum less twice the product, times its own reciprocal root. The last block's state is a function of the columns inside the
  array.
-/
module

public import proofs.«01_k».proof.Proof.GridRun
public import Idealize.ShloMosaic.PureOps.Ideal.Laws
public import Idealize.ShloMosaic.PureOps.IdealRules
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.Pipeline.Value

@[expose] public section

set_option maxRecDepth 16384

noncomputable section

namespace Cert.KernelValue

open Cert.KernelIdeal Cert.KernelIdeal.Gen Idealize.ShloMosaic Idealize.ShloMosaic.ValueIdx
open scoped BigOperators

/-- The distance the kernel forms from a row's squared norm `a`, a column's squared norm `b` and their product `p`. -/
def away (a b p : EReal) : EReal := (a + b - (p + p)) * Ideal.rsqrt (a + b - (p + p))

/-- The product of row `r` of the embeddings with column `n` of a block. -/
theorem products_apply (x : FVec Ideal S1024x32 .f32) (X : FVec Ideal S32x4096 .f32) (r : Fin 1024) (n : Fin 4096) :
    k0_pay6 x X (ix2 r n) = ∑ k : Fin 32, x (ix2 r k) * X (ix2 k n) := by
  have h := Ideal.matmul_plain_apply (M := 1024) (K := 32) (N := 4096) none x X (constant (F := Ideal) S1024x4096 .f32 0x00000000#32) r n
  refine Eq.trans ?_ (h.trans ?_)
  · unfold k0_pay6 k0_pay5; rw [shapeCast_self]; rfl
  · rw [constant_apply, Ideal.ofBits_zero_f32, zero_add]

/-- The squared norm of column `n` of a block. -/
theorem columnNorm_apply (X : FVec Ideal S32x4096 .f32) (u : Fin 1) (n : Fin 4096) :
    k0_pay7 X (ix2 u n) = ∑ k : Fin 32, X (ix2 k n) * X (ix2 k n) := by
  unfold k0_pay7 k0_pay5; dsimp only
  rw [shapeCast_self, shapeCast_apply _ _ _ (ix1 n) (by
    have := u.isLt
    rw [Shape.rowMajor_val_one, Shape.rowMajor_val_two]; simp)]
  refine (Ideal.multiReduction_add_single ..).trans (Finset.sum_congr rfl fun k _ => ?_)
  have e : reduces_S32x4096_S4096.lift (ix1 n) k = ix2 k n := Shape.idx_ext₂ rfl rfl
  rw [e]; rfl

/-- The squared norm of row `r`, in every lane. -/
theorem rowNorm_apply (x : FVec Ideal S1024x32 .f32) (r : Fin 1024) (l : Fin 128) :
    k0_pay1 x (ix2 r l) = ∑ k : Fin 32, x (ix2 r k) * x (ix2 r k) := by
  unfold k0_pay1; dsimp only
  rw [shapeCast_self, shapeCast_self, broadcastTo_apply _ _ _ (ix2 r 0) (by intro a; fin_cases a <;> simp), shapeCast_apply _ _ _ (ix1 r) (by
    rw [Shape.rowMajor_val_one, Shape.rowMajor_val_two]; simp)]
  refine (Ideal.multiReduction_add_single ..).trans (Finset.sum_congr rfl fun k _ => ?_)
  have e : reduces_S1024x32_S1024.lift (ix1 r) k = ix2 r k := Shape.idx_ext₂ rfl rfl
  rw [e]; rfl

/-- A chunk's entry: the distance formed from the three numbers at its row and column. -/
theorem chunk_apply (P : FVec Ideal S1024x4096 .f32) (C : FVec Ideal S1x4096 .f32) (e : FVec Ideal S1024x128 .f32) (k : ℕ) (hk : k < 32)
    (r : Fin 1024) (l : Fin 128) :
    chunk P C e k hk (ix2 r l)
      = away (e (ix2 r l)) (C (ix2 0 ⟨128 * k + l.val, by have := l.isLt; omega⟩)) (P (ix2 r ⟨128 * k + l.val, by have := l.isLt; omega⟩)) := by
  have hp : extractStridedSlice S1024x128 ![0, 128 * k] P (slices_wide hk) (ix2 r l) = P (ix2 r ⟨128 * k + l.val, by have := l.isLt; omega⟩) :=
    slice2_axis1_apply (128 * k) P (slices_wide hk) r l _ rfl
  have hc : broadcastTo S1024x128 (extractStridedSlice S1x128 ![0, 128 * k] C (slices_row hk)) broadcasts_S1x128_S1024x128 (ix2 r l)
      = C (ix2 0 ⟨128 * k + l.val, by have := l.isLt; omega⟩) :=
    (broadcastTo_1b_ab_apply _ _ r l).trans (slice2_axis1_apply (128 * k) C (slices_row hk) 0 l _ rfl)
  show (e (ix2 r l) + _ - (_ + _)) * Ideal.rsqrt (e (ix2 r l) + _ - (_ + _)) = _
  rw [hp, hc]; rfl

/-- The mask of the last chunk: the lanes below 32. -/
theorem mask_apply (r : Fin 1024) (l : Fin 128) :
    broadcastTo S1024x128
      (shapeCast S1x128 (cmpi .slt (iota .tc S1x128 32 [1] iota_S1x128_d1_w32) (broadcast S1x128 32#32)) shapeCasts_S1x128_S1x128)
      broadcasts_S1x128_S1024x128 (ix2 r l) = if l.val < 32 then 1#1 else 0#1 := by
  rw [shapeCast_self]
  refine (broadcastTo_1b_ab_apply _ _ r l).trans ?_
  show IntOp.cmpi .slt (iota .tc S1x128 32 [1] iota_S1x128_d1_w32 (ix2 0 l)) 32#32 = _
  rw [iota_single_apply]
  show IntOp.cmpi .slt (BitVec.ofNat 32 l.val) 32#32 = _
  revert l; decide

/-- The named bound is the top of the extended reals. -/
theorem bound_eq : (Named.named κ "big" 0x7F61B1E6#32 : Ideal .f32) = ⊤ := IdealRules.named_const.ideal_named_scalar _ _ _ _ rfl

/-- The last chunk's entry: the distance below lane 32, the bound from there on. -/
theorem edge_apply (P : FVec Ideal S1024x4096 .f32) (C : FVec Ideal S1x4096 .f32) (e : FVec Ideal S1024x128 .f32) (r : Fin 1024) (l : Fin 128) :
    edge P C e (ix2 r l) = if l.val < 32 then chunk P C e 13 (by decide) (ix2 r l) else ⊤ := by
  unfold edge
  rw [select_apply, mask_apply]
  split
  · exact select_one _ _
  · exact (select_zero _ _).trans bound_eq

/-- The last block's state is a function of the columns inside the array. -/
theorem edge_ideal : Edge Ideal := fun x X X' e b s h => by
  have hc : ∀ (n : Fin 4096), n.val < 1696 → ∀ k, X (ix2 k n) = X' (ix2 k n) := fun n hn k => h _ hn
  have hP : ∀ (r : Fin 1024) (n : Fin 4096), n.val < 1696 → k0_pay6 (F := Ideal) x X (ix2 r n) = k0_pay6 (F := Ideal) x X' (ix2 r n) := fun r n hn => by
    rw [products_apply, products_apply]; simp only [hc n hn]
  have hC : ∀ (n : Fin 4096), n.val < 1696 → k0_pay7 (F := Ideal) X (ix2 (0 : Fin 1) n) = k0_pay7 (F := Ideal) X' (ix2 (0 : Fin 1) n) := fun n hn => by
    rw [columnNorm_apply, columnNorm_apply]; simp only [hc n hn]
  have hchunk : ∀ (k : ℕ) (hk : k < 32) (r : Fin 1024) (l : Fin 128), 128 * k + l.val < 1696 →
      chunk (k0_pay6 x X) (k0_pay7 X) e k hk (ix2 r l) = chunk (k0_pay6 x X') (k0_pay7 X') e k hk (ix2 r l) := fun k hk r l hl => by
    rw [chunk_apply, chunk_apply, hP r _ hl, hC _ hl]
  have hedge : edge (k0_pay6 x X) (k0_pay7 X) e = edge (k0_pay6 x X') (k0_pay7 X') e := funext fun j => by
    rw [eq_ix2 j]
    refine (edge_apply _ _ _ (j 0) (j 1)).trans (Eq.trans ?_ (edge_apply _ _ _ (j 0) (j 1)).symm)
    split
    · exact hchunk 13 _ _ _ (by omega)
    · rfl
  have hchunks : ∀ (n : ℕ) (hn : n ≤ 13), chunks (k0_pay6 x X) (k0_pay7 X) e b s n (by omega) = chunks (k0_pay6 x X') (k0_pay7 X') e b s n (by omega) := by
    intro n
    induction n with
    | zero => intro _; rfl
    | succ n ih =>
      intro hn
      unfold chunks
      rw [ih (by omega)]
      congr 1
      funext j
      rw [eq_ix2 j]
      exact hchunk n _ (j 0) (j 1) (by have := idx2_lt1 j; omega)
  unfold lastBlock
  rw [hedge, hchunks 13 (Nat.le_refl _)]

end Cert.KernelValue

end
-- ==== Proof.RefRun.lean ====
/-
  What the reference program computes, read off its run.

  The first part names the arrays the program builds: the table of distances, the label of each row, the
  logarithm of the sum of exponentials, the picked entry and the loss. The second part lists the program's host operations and states the
  run: it ends with the two results at those arrays and with the arguments as they were.
-/
module

public import proofs.«01_k».proof.Proof.Gen.ReferenceIdeal
public import Idealize.ShloMosaic.Lib.StableHlo.Run
public import Idealize.ShloMosaic.Lib.Quiescent

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The distance of each row of `x` from each row of `c`: `√(max (|x|² + |c|² - 2 x·c) 0)`. -/
def dist (x : FVec F S1024x32 .f32) (c : FVec F S100000x32 .f32) : FVec F S1024x100000 .f32 :=
  Host.sqrt (maximumf
    (subf
      (addf
        (broadcastInDim S1024x100000 ![0, 1] bcast_S1024x1_S1024x100000_0_1
          (broadcastInDim S1024x1 ![0] bcast_S1024_S1024x1_0
            (Host.reduceAdd (mulf x x) (constant S_ .f32 0x00000000#32) reducesTo_S1024x32_S1024_d1 h_S_)))
        (broadcastInDim S1024x100000 ![0, 1] bcast_S1x100000_S1024x100000_0_1
          (broadcastInDim S1x100000 ![1] bcast_S100000_S1x100000_1
            (Host.reduceAdd (mulf c c) (constant S_ .f32 0x00000000#32) reducesTo_S100000x32_S100000_d1 h_S_))))
      (mulf (broadcastInDim S1024x100000 ![] bcast_S_S1024x100000 (constant S_ .f32 0x40000000#32))
        (Host.dotGeneral dot_S1024x32_S32x100000_S1024x100000_1_0_0_1_n_n none x
          (transpose S32x100000 [1, 0] c transposes_S100000x32_S32x100000_1_0))))
    (broadcastInDim S1024x100000 ![] bcast_S_S1024x100000 (constant S_ .f32 0x00000000#32)))

/-- The label of each row of a table: the column of its least entry. -/
def label (d : FVec F S1024x100000 .f32) : IVec S1024 32 := fun j =>
  (Host.argReduce reducer_argmin_f32_i32 d (iotaInDim S1024x100000 32 1) (constant S_ .f32 0x7F800000#32)
    (constantI S_ 32 0#32) reducesTo_S1024x100000_S1024_d1 h_S_ j).2

/-- The greatest entry of each row. -/
def rowMax (l : FVec F S1024x100000 .f32) : FVec F S1024x1 .f32 :=
  broadcastInDim S1024x1 ![0] bcast_S1024_S1024x1_0
    (Host.reduce FloatOps.maximumf l (constant S_ .f32 0xFF800000#32) reducesTo_S1024x100000_S1024_d1 h_S_)

/-- The logarithm of each row's sum of exponentials, shifted by its greatest entry. -/
def logSumExp (l : FVec F S1024x100000 .f32) : FVec F S1024 .f32 :=
  addf
    (Host.log (Host.reduceAdd
      (Host.exp (subf l (broadcastInDim S1024x100000 ![0, 1] bcast_S1024x1_S1024x100000_0_1 (rowMax l))))
      (constant S_ .f32 0x00000000#32) reducesTo_S1024x100000_S1024_d1 h_S_))
    (fun i => shapeCast S1024 (rowMax l) shapeCasts_S1024x1_S1024 i)

/-- The column looked up in each row: the label, counted from the end where it is negative. -/
def column (k : IVec S1024 32) : IVec S1024x1x1 32 :=
  fun i => shapeCast S1024x1x1
    (select
      (cmpi .slt (broadcastInDim S1024x1 ![0] bcast_S1024_S1024x1_0 k)
        (broadcastInDim S1024x1 ![] bcast_S_S1024x1 (constantI S_ 32 0#32)))
      (addi (broadcastInDim S1024x1 ![0] bcast_S1024_S1024x1_0 k)
        (broadcastInDim S1024x1 ![] bcast_S_S1024x1 (constantI S_ 32 100000#32)))
      (broadcastInDim S1024x1 ![0] bcast_S1024_S1024x1_0 k))
    shapeCasts_S1024x1_S1024x1x1 i

/-- Whether the column looked up lies inside the table. -/
def inside (k : IVec S1024 32) : IVec S1024x1 1 :=
  Host.reduce IntOp.andi
    (andi
      (cmpi .sge (column k) (broadcastInDim S1024x1x1 ![] bcast_S_S1024x1x1 (constantI S_ 32 0#32)))
      (cmpi .sle (column k)
        (broadcastInDim S1024x1x1 ![0, 1, 2] bcast_S1x1x1_S1024x1x1_0_1_2
          (broadcastInDim S1x1x1 ![2] bcast_S1_S1x1x1_2 (constantI S1 32 99999#32)))))
    (constantI S_ 1 1#1) reducesTo_S1024x1x1_S1024x1_d2 h_S_

/-- The entry of each row at its label. -/
def picked (l : FVec F S1024x100000 .f32) (k : IVec S1024 32) : FVec F S1024 .f32 :=
  fun i => shapeCast S1024
    (select (inside k)
      (Host.gather gather_S1024x100000_S1024x1x1_S1024x1_n_1_0_0_1_2_11 l (column k))
      (broadcastInDim S1024x1 ![] bcast_S_S1024x1 (constant S_ .f32 0x7FC00000#32)))
    shapeCasts_S1024x1_S1024 i

/-- The mean over the rows of the log-sum-exp less the entry at the label. -/
def lossOf (l : FVec F S1024x100000 .f32) (k : IVec S1024 32) : FVec F S_ .f32 :=
  Host.divf
    (Host.reduceAdd (subf (logSumExp l) (picked l k)) (constant S_ .f32 0x00000000#32) reducesTo_S1024_S_d0 h_S_)
    (constant S_ .f32 0x44800000#32)

/-- The reference's loss, from its two arguments. -/
def loss (x : FVec F S1024x32 .f32) (c : FVec F S100000x32 .f32) : FVec F S_ .f32 :=
  lossOf (Host.negf (dist x c)) (label (dist x c))

/-- The program's host operations in order; a called function's operations stand in the place of its call. -/
abbrev ops : List (HloOp τ sig (Elt F)) :=
  [ binary main_arg0 main_arg0 main_v0 (mulf : (⟨S1024x32, .f32⟩ : BufTy).Contents (Elt F) → (⟨S1024x32, .f32⟩ : BufTy).Contents (Elt F) → (⟨S1024x32, .f32⟩ : BufTy).Contents (Elt F)),
    nullary main_cst (constant S_ .f32 0x00000000#32),
    binary main_v0 main_cst main_v1 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v1 main_v2 (broadcastInDim S1024x1 ![0] bcast_S1024_S1024x1_0 : (⟨S1024, .f32⟩ : BufTy).Contents (Elt F) → (⟨S1024x1, .f32⟩ : BufTy).Contents (Elt F)),
    binary main_arg1 main_arg1 main_v3 (mulf : (⟨S100000x32, .f32⟩ : BufTy).Contents (Elt F) → (⟨S100000x32, .f32⟩ : BufTy).Contents (Elt F) → (⟨S100000x32, .f32⟩ : BufTy).Contents (Elt F)),
    nullary main_cst_0 (constant S_ .f32 0x00000000#32),
    binary main_v3 main_cst_0 main_v4 ((fun x v => Host.reduceAdd x v reducesTo_S100000x32_S100000_d1 h_S_) : (⟨S100000x32, .f32⟩ : BufTy).Contents (Elt F) → (⟨S_, .f32⟩ : BufTy).Contents (Elt F) → (⟨S100000, .f32⟩ : BufTy).Contents (Elt F)),
    unary main_v4 main_v5 (broadcastInDim S1x100000 ![1] bcast_S100000_S1x100000_1 : (⟨S100000, .f32⟩ : BufTy).Contents (Elt F) → (⟨S1x100000, .f32⟩ : BufTy).Contents (Elt F)),
    unary main_v2 main_v6 (broadcastInDim S1024x100000 ![0, 1] bcast_S1024x1_S1024x100000_0_1 : (⟨S1024x1, .f32⟩ : BufTy).Contents (Elt F) → (⟨S1024x100000, .f32⟩ : BufTy).Contents (Elt F)),
    unary main_v5 main_v7 (broadcastInDim S1024x100000 ![0, 1] bcast_S1x100000_S1024x100000_0_1 : (⟨S1x100000, .f32⟩ : BufTy).Contents (Elt F) → (⟨S1024x100000, .f32⟩ : BufTy).Contents (Elt F)),
    binary main_v6 main_v7 main_v8 (addf : (⟨S1024x100000, .f32⟩ : BufTy).Contents (Elt F) → (⟨S1024x100000, .f32⟩ : BufTy).Contents (Elt F) → (⟨S1024x100000, .f32⟩ : BufTy).Contents (Elt F)),
    unary main_arg1 main_v9 ((transpose S32x100000 [1, 0] · transposes_S100000x32_S32x100000_1_0) : (⟨S100000x32, .f32⟩ : BufTy).Contents (Elt F) → (⟨S32x100000, .f32⟩ : BufTy).Contents (Elt F)),
    binary main_arg0 main_v9 main_v10 ((fun l r => Host.dotGeneral dot_S1024x32_S32x100000_S1024x100000_1_0_0_1_n_n none l r) : (⟨S1024x32, .f32⟩ : BufTy).Contents (Elt F) → (⟨S32x100000, .f32⟩ : BufTy).Contents (Elt F) → (⟨S1024x100000, .f32⟩ : BufTy).Contents (Elt F)),
    nullary main_cst_1 (constant S_ .f32 0x40000000#32),
    unary main_cst_1 main_v11 (broadcastInDim S1024x100000 ![] bcast_S_S1024x100000 : (⟨S_, .f32⟩ : BufTy).Contents (Elt F) → (⟨S1024x100000, .f32⟩ : BufTy).Contents (Elt F)),
    binary main_v11 main_v10 main_v12 (mulf : (⟨S1024x100000, .f32⟩ : BufTy).Contents (Elt F) → (⟨S1024x100000, .f32⟩ : BufTy).Contents (Elt F) → (⟨S1024x100000, .f32⟩ : BufTy).Contents (Elt F)),
    binary main_v8 main_v12 main_v13 (subf : (⟨S1024x100000, .f32⟩ : BufTy).Contents (Elt F) → (⟨S1024x100000, .f32⟩ : BufTy).Contents (Elt F) → (⟨S1024x100000, .f32⟩ : BufTy).Contents (Elt F)),
    nullary main_cst_2 (constant S_ .f32 0x00000000#32),
    unary main_cst_2 main_v14 (broadcastInDim S1024x100000 ![] bcast_S_S1024x100000 : (⟨S_, .f32⟩ : BufTy).Contents (Elt F) → (⟨S1024x100000, .f32⟩ : BufTy).Contents (Elt F)),
    binary main_v13 main_v14 main_v15 (maximumf : (⟨S1024x100000, .f32⟩ : BufTy).Contents (Elt F) → (⟨S1024x100000, .f32⟩ : BufTy).Contents (Elt F) → (⟨S1024x100000, .f32⟩ : BufTy).Contents (Elt F)),
    unary main_v15 main_v16 (Host.sqrt : (⟨S1024x100000, .f32⟩ : BufTy).Contents (Elt F) → (⟨S1024x100000, .f32⟩ : BufTy).Contents (Elt F)),
    TRef.nullary (TRef.of (T := ⟨S1024x100000, .i32⟩) main_call0_v0) (iotaInDim S1024x100000 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S1024x100000, .f32⟩) main_v16) (TRef.of (T := ⟨S1024x100000, .i32⟩) main_call0_v0) (TRef.of (T := ⟨S_, .f32⟩) main_call0_cst) (TRef.of (T := ⟨S_, .i32⟩) main_call0_c) (TRef.of (T := ⟨S1024, .f32⟩) main_call0_v1_0) (fun x y u v j => (Host.argReduce reducer_argmin_f32_i32 x y u v reducesTo_S1024x100000_S1024_d1 h_S_ j).1),
    TRef.quaternary (TRef.of (T := ⟨S1024x100000, .f32⟩) main_v16) (TRef.of (T := ⟨S1024x100000, .i32⟩) main_call0_v0) (TRef.of (T := ⟨S_, .f32⟩) main_call0_cst) (TRef.of (T := ⟨S_, .i32⟩) main_call0_c) (TRef.of (T := ⟨S1024, .i32⟩) main_v17) (fun x y u v j => (Host.argReduce reducer_argmin_f32_i32 x y u v reducesTo_S1024x100000_S1024_d1 h_S_ j).2),
    unary main_v16 main_v18 (Host.negf : (⟨S1024x100000, .f32⟩ : BufTy).Contents (Elt F) → (⟨S1024x100000, .f32⟩ : BufTy).Contents (Elt F)),
    nullary main_cst_3 (constant S_ .f32 0xFF800000#32),
    binary main_v18 main_cst_3 main_v19 ((fun x v => Host.reduce FloatOps.maximumf x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    unary main_v19 main_v20 (broadcastInDim S1024x1 ![0] bcast_S1024_S1024x1_0 : (⟨S1024, .f32⟩ : BufTy).Contents (Elt F) → (⟨S1024x1, .f32⟩ : BufTy).Contents (Elt F)),
    unary main_v20 main_v21 (broadcastInDim S1024x100000 ![0, 1] bcast_S1024x1_S1024x100000_0_1 : (⟨S1024x1, .f32⟩ : BufTy).Contents (Elt F) → (⟨S1024x100000, .f32⟩ : BufTy).Contents (Elt F)),
    binary main_v18 main_v21 main_v22 (subf : (⟨S1024x100000, .f32⟩ : BufTy).Contents (Elt F) → (⟨S1024x100000, .f32⟩ : BufTy).Contents (Elt F) → (⟨S1024x100000, .f32⟩ : BufTy).Contents (Elt F)),
    unary main_v22 main_v23 (Host.exp : (⟨S1024x100000, .f32⟩ : BufTy).Contents (Elt F) → (⟨S1024x100000, .f32⟩ : BufTy).Contents (Elt F)),
    nullary main_cst_4 (constant S_ .f32 0x00000000#32),
    binary main_v23 main_cst_4 main_v24 ((fun x v => Host.reduceAdd x v reducesTo_S1024x100000_S1024_d1 h_S_) : (⟨S1024x100000, .f32⟩ : BufTy).Contents (Elt F) → (⟨S_, .f32⟩ : BufTy).Contents (Elt F) → (⟨S1024, .f32⟩ : BufTy).Contents (Elt F)),
    unary main_v24 main_v25 (Host.log : (⟨S1024, .f32⟩ : BufTy).Contents (Elt F) → (⟨S1024, .f32⟩ : BufTy).Contents (Elt F)),
    reshape main_v20 main_v26 (rfl : (.f32 : EltTy) = .f32) shapeCasts_S1024x1_S1024,
    binary main_v25 main_v26 main_v27 (addf : (⟨S1024, .f32⟩ : BufTy).Contents (Elt F) → (⟨S1024, .f32⟩ : BufTy).Contents (Elt F) → (⟨S1024, .f32⟩ : BufTy).Contents (Elt F)),
    unary main_v17 main_v28 (broadcastInDim S1024x1 ![0] bcast_S1024_S1024x1_0 : (⟨S1024, .i32⟩ : BufTy).Contents (Elt F) → (⟨S1024x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S1024x1, .i32⟩) main_call1_v0) (broadcastInDim S1024x1 ![] bcast_S_S1024x1),
    TRef.binary (TRef.of (T := ⟨S1024x1, .i32⟩) main_v28) (TRef.of (T := ⟨S1024x1, .i32⟩) main_call1_v0) (TRef.of (T := ⟨S1024x1, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S1024x1, .i32⟩) main_call1_v2) (broadcastInDim S1024x1 ![] bcast_S_S1024x1),
    TRef.binary (TRef.of (T := ⟨S1024x1, .i32⟩) main_v28) (TRef.of (T := ⟨S1024x1, .i32⟩) main_call1_v2) (TRef.of (T := ⟨S1024x1, .i32⟩) main_call1_v3) addi,
    TRef.ternary (TRef.of (T := ⟨S1024x1, .i1⟩) main_call1_v1) (TRef.of (T := ⟨S1024x1, .i32⟩) main_call1_v3) (TRef.of (T := ⟨S1024x1, .i32⟩) main_v28) (TRef.of (T := ⟨S1024x1, .i32⟩) main_call1_v4) select,
    TRef.reshape (TRef.of (T := ⟨S1024x1, .i32⟩) main_call1_v4) (TRef.of (T := ⟨S1024x1x1, .i32⟩) main_call1_v5) (rfl : (.i32 : EltTy) = .i32) shapeCasts_S1024x1_S1024x1x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S1024x1x1, .i32⟩) main_call1_v6) (broadcastInDim S1024x1x1 ![] bcast_S_S1024x1x1),
    TRef.binary (TRef.of (T := ⟨S1024x1x1, .i32⟩) main_call1_v5) (TRef.of (T := ⟨S1024x1x1, .i32⟩) main_call1_v6) (TRef.of (T := ⟨S1024x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S1024x1x1, .i32⟩) main_call1_v9) (broadcastInDim S1024x1x1 ![0, 1, 2] bcast_S1x1x1_S1024x1x1_0_1_2),
    TRef.binary (TRef.of (T := ⟨S1024x1x1, .i32⟩) main_call1_v5) (TRef.of (T := ⟨S1024x1x1, .i32⟩) main_call1_v9) (TRef.of (T := ⟨S1024x1x1, .i1⟩) main_call1_v10) (cmpi .sle),
    TRef.binary (TRef.of (T := ⟨S1024x1x1, .i1⟩) main_call1_v7) (TRef.of (T := ⟨S1024x1x1, .i1⟩) main_call1_v10) (TRef.of (T := ⟨S1024x1x1, .i1⟩) main_call1_v11) andi,
    TRef.nullary (TRef.of (T := ⟨S_, .i1⟩) main_call1_c_3) (constantI S_ 1 1#1),
    TRef.binary (TRef.of (T := ⟨S1024x1x1, .i1⟩) main_call1_v11) (TRef.of (T := ⟨S_, .i1⟩) main_call1_c_3) (TRef.of (T := ⟨S1024x1, .i1⟩) main_call1_v12) (fun x v => Host.reduce IntOp.andi x v reducesTo_S1024x1x1_S1024x1_d2 h_S_),
    TRef.binary (TRef.of (T := ⟨S1024x100000, .f32⟩) main_v18) (TRef.of (T := ⟨S1024x1x1, .i32⟩) main_call1_v5) (TRef.of (T := ⟨S1024x1, .f32⟩) main_call1_v13) (fun x i => Host.gather gather_S1024x100000_S1024x1x1_S1024x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S1024x1, .f32⟩) main_call1_v14) (broadcastInDim S1024x1 ![] bcast_S_S1024x1),
    TRef.ternary (TRef.of (T := ⟨S1024x1, .i1⟩) main_call1_v12) (TRef.of (T := ⟨S1024x1, .f32⟩) main_call1_v13) (TRef.of (T := ⟨S1024x1, .f32⟩) main_call1_v14) (TRef.of (T := ⟨S1024x1, .f32⟩) main_v29) select,
    reshape main_v29 main_v30 (rfl : (.f32 : EltTy) = .f32) shapeCasts_S1024x1_S1024,
    binary main_v27 main_v30 main_v31 (subf : (⟨S1024, .f32⟩ : BufTy).Contents (Elt F) → (⟨S1024, .f32⟩ : BufTy).Contents (Elt F) → (⟨S1024, .f32⟩ : BufTy).Contents (Elt F)),
    nullary main_cst_5 (constant S_ .f32 0x00000000#32),
    binary main_v31 main_cst_5 main_v32 ((fun x v => Host.reduceAdd x v reducesTo_S1024_S_d0 h_S_) : (⟨S1024, .f32⟩ : BufTy).Contents (Elt F) → (⟨S_, .f32⟩ : BufTy).Contents (Elt F) → (⟨S_, .f32⟩ : BufTy).Contents (Elt F)),
    nullary main_cst_6 (constant S_ .f32 0x44800000#32),
    binary main_v32 main_cst_6 main_v33 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The program is its operations, one after the other. -/
theorem main_eq (c : Dev nD) : main (F := F) c = seq ops := rfl

/-- No buffer is scoped. -/
theorem scopedRefs_eq : (Finset.univ.filter fun b : Ref sig .tc => b.isScoped) = ∅ := by decide

/-- No semaphore is scoped. -/
theorem scopedSems_eq : (Finset.univ.filter fun sm : SemLoc sig => sm.isScoped .tc) = ∅ := by decide

set_option maxRecDepth 8192 in
/-- Each operation's buffers are the program's. -/
theorem ops_sub : (ops : List (HloOp τ sig (Elt F))).Forall fun op => op.bufs ⊆ tcRefs τ sig :=
  ⟨binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., nullary_bufs_sub .., nullary_bufs_sub .., nullary_bufs_sub .., quaternary_bufs_sub .., quaternary_bufs_sub .., unary_bufs_sub .., nullary_bufs_sub .., binary_bufs_sub .., unary_bufs_sub .., unary_bufs_sub .., binary_bufs_sub .., unary_bufs_sub .., nullary_bufs_sub .., binary_bufs_sub .., unary_bufs_sub .., reshape_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., binary_bufs_sub .., nullary_bufs_sub .., binary_bufs_sub .., nullary_bufs_sub .., binary_bufs_sub ..⟩

set_option maxRecDepth 8192 in
set_option maxHeartbeats 32000000 in
/-- From any memory with zero counters every weakly fair run of the reference ends with the loss and the labels in
    its two result buffers and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v33)
          = loss (m ((c.tc : Thread nD τ).loc main_arg0)) (m ((c.tc : Thread nD τ).loc main_arg1))
      ∧ r.2.mem ((c.tc : Thread nD τ).loc main_v17)
          = label (dist (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨
      (h c main_v33).trans (by simp only [ops, TRef.binary, TRef.nullary, TRef.reshape, TRef.ternary, TRef.quaternary, TRef.unary, TRef.toBuf, TRef.ofBuf, cast_eq]; after_results_simp; rfl),
      (h c main_v17).trans (by simp only [ops, TRef.binary, TRef.nullary, TRef.reshape, TRef.ternary, TRef.quaternary, TRef.unary, TRef.toBuf, TRef.ofBuf, cast_eq]; after_results_simp <;> rfl),
      (h c main_arg0).trans (by simp only [ops, TRef.binary, TRef.nullary, TRef.reshape, TRef.ternary, TRef.quaternary, TRef.unary, TRef.toBuf, TRef.ofBuf, cast_eq]; after_results_simp <;> rfl),
      (h c main_arg1).trans (by simp only [ops, TRef.binary, TRef.nullary, TRef.reshape, TRef.ternary, TRef.quaternary, TRef.unary, TRef.toBuf, TRef.ofBuf, cast_eq]; after_results_simp <;> rfl)⟩)
    (run_seq scopedRefs_eq scopedSems_eq defs main (fun _ => ops) main_eq (fun _ => ops_sub) m ρ)

/-- The arguments end unchanged and every counter at zero: the program has no counters. -/
theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => (h c).2.2, sem_eq_zero_of_no_sems rfl r.2⟩) (run m ρ)

end Cert.RefRun

end
-- ==== Proof.RowMath.lean ====
/-
  The mathematics of one row, apart from both programs.

  A row is a sequence of distances. The kernel deals it out to 128 lanes and keeps in each lane the least distance, the number of
  the step that brought it and the sum of the exponentials of the negated distances. From the lanes it has the row's least
  distance, the first column that attains it, and the sum over the row. The reference folds the row's pairs of distance
  and column; the fold ends at the same column.
-/
module

public import Idealize.ShloMosaic.PureOps.Ideal.Laws
public import Idealize.ShloMosaic.PureOps.Reduce
public import Idealize.ShloMosaic.Lib.WordArith
public import Mathlib.Analysis.SpecialFunctions.Log.Basic

@[expose] public section

noncomputable section

namespace Cert.RowMath

open Idealize.ShloMosaic
open scoped BigOperators

/-- `n` is the first of the columns below `N` at which `d` is least. -/
structure IsFirst (d : ℕ → ℝ) (N n : ℕ) : Prop where
  lt : n < N
  le : ∀ i < N, d n ≤ d i
  before : ∀ i < n, d n < d i

/-- A row that is not empty has a first least column. -/
theorem exists_first (d : ℕ → ℝ) (N : ℕ) : ∃ n, IsFirst d (N + 1) n := by
  induction N with
  | zero => exact ⟨0, by omega, fun i hi => by obtain rfl : i = 0 := by omega
                                               exact le_refl _, fun i hi => by omega⟩
  | succ N ih =>
    obtain ⟨n, h⟩ := ih
    rcases lt_or_ge (d (N + 1)) (d n) with hlt | hge
    · refine ⟨N + 1, by omega, fun i hi => ?_, fun i hi => lt_of_lt_of_le hlt (h.le i (by omega))⟩
      rcases Nat.lt_or_ge i (N + 1) with h1 | h1
      · exact (lt_of_lt_of_le hlt (h.le i h1)).le
      · obtain rfl : i = N + 1 := by omega
        exact le_refl _
    · refine ⟨n, by have := h.lt; omega, fun i hi => ?_, h.before⟩
      rcases Nat.lt_or_ge i (N + 1) with h1 | h1
      · exact h.le i h1
      · obtain rfl : i = N + 1 := by omega
        exact hge

/-- The row continued past its end by the top element. -/
def padded (d : ℕ → ℝ) (N n : ℕ) : EReal := if n < N then (d n : EReal) else ⊤

theorem padded_of_lt (d : ℕ → ℝ) {N n : ℕ} (h : n < N) : padded d N n = (d n : EReal) := if_pos h
theorem padded_of_ge (d : ℕ → ℝ) {N n : ℕ} (h : ¬n < N) : padded d N n = ⊤ := if_neg h

/-! ## One lane -/

/-- A lane's state: the least distance so far, the number of the step that brought it, the sum of exponentials. -/
abbrev Lane : Type := EReal × BitVec 32 × EReal

/-- One step of a lane: the distance `v` at the step numbered `w`. -/
def step (w : BitVec 32) (v : EReal) (s : Lane) : Lane :=
  (if v < s.1 then v else s.1, if v < s.1 then w else s.2.1, s.2.2 + Ideal.exp (0 - v))

/-- The lane after `n` steps. -/
def lane (f : ℕ → EReal) : ℕ → Lane
  | 0 => (⊤, 0#32, 0)
  | n + 1 => step (BitVec.ofNat 32 n) (f n) (lane f n)

theorem lane_le (f : ℕ → EReal) (n : ℕ) : ∀ i < n, (lane f n).1 ≤ f i := by
  induction n with
  | zero => intro i hi; omega
  | succ n ih =>
    intro i hi
    show (if f n < (lane f n).1 then f n else (lane f n).1) ≤ f i
    rcases Nat.lt_or_ge i n with h | h
    · split
      · exact (‹f n < _›.le).trans (ih i h)
      · exact ih i h
    · obtain rfl : i = n := by omega
      split
      · exact le_refl _
      · exact not_lt.mp ‹_›

theorem lane_attained (f : ℕ → EReal) (n : ℕ) (h : (lane f n).1 < ⊤) :
    ∃ i < n, f i = (lane f n).1 ∧ (lane f n).2.1 = BitVec.ofNat 32 i ∧ ∀ j < i, (lane f n).1 < f j := by
  induction n with
  | zero => exact absurd h (lt_irrefl _)
  | succ n ih =>
    have e1 : (lane f (n + 1)).1 = if f n < (lane f n).1 then f n else (lane f n).1 := rfl
    have e2 : (lane f (n + 1)).2.1 = if f n < (lane f n).1 then BitVec.ofNat 32 n else (lane f n).2.1 := rfl
    by_cases hlt : f n < (lane f n).1
    · rw [if_pos hlt] at e1 e2
      exact ⟨n, by omega, e1.symm, e2, fun j hj => by rw [e1]; exact lt_of_lt_of_le hlt (lane_le f n j hj)⟩
    · rw [if_neg hlt] at e1 e2
      rw [e1] at h
      obtain ⟨i, hi, a, b, c⟩ := ih h
      exact ⟨i, by omega, a.trans e1.symm, e2.trans b, fun j hj => by rw [e1]; exact c j hj⟩

theorem lane_sum (f : ℕ → EReal) (n : ℕ) : (lane f n).2.2 = ∑ i ∈ Finset.range n, Ideal.exp (0 - f i) := by
  induction n with
  | zero => rfl
  | succ n ih => rw [Finset.sum_range_succ, ← ih]; rfl

/-! ## The lanes of a row -/

/-- Lane `l` of a row of `N` distances after `K` steps: step `q` brings column `128 q + l`. -/
def laneOf (d : ℕ → ℝ) (N K l : ℕ) : Lane := lane (fun q => padded d N (128 * q + l)) K

variable {d : ℕ → ℝ} {N K n : ℕ}

theorem le_padded (h : IsFirst d N n) (i : ℕ) : (d n : EReal) ≤ padded d N i := by
  unfold padded
  split
  · exact EReal.coe_le_coe_iff.mpr (h.le i ‹_›)
  · exact le_top

theorem le_laneOf (h : IsFirst d N n) (l : ℕ) : (d n : EReal) ≤ (laneOf d N K l).1 := by
  by_cases ht : (laneOf d N K l).1 < ⊤
  · obtain ⟨i, _, e, _⟩ := lane_attained _ _ ht
    exact (le_padded h _).trans e.le
  · rw [not_lt_top_iff.mp ht]; exact le_top

/-- The lane that holds the first least column holds its distance. -/
theorem laneOf_first (h : IsFirst d N n) (hK : N ≤ 128 * K) : (laneOf d N K (n % 128)).1 = d n := by
  refine le_antisymm ?_ (le_laneOf h _)
  have hl := lane_le (fun q => padded d N (128 * q + n % 128)) K (n / 128) (by have := h.lt; omega)
  refine hl.trans ?_
  have e : 128 * (n / 128) + n % 128 = n := Nat.div_add_mod n 128
  show padded d N (128 * (n / 128) + n % 128) ≤ _
  rw [e, padded_of_lt d h.lt]

/-- A lane that holds the least distance names a column that attains it, -/
theorem laneOf_column (h : IsFirst d N n) (hN : N < 2 ^ 31) {l : ℕ} (hl : l < 128)
    (e : (laneOf d N K l).1 = d n) :
    ∃ k, (laneOf d N K l).2.1 * 128#32 + BitVec.ofNat 32 l = BitVec.ofNat 32 k ∧ n ≤ k ∧ k < N := by
  obtain ⟨i, _, e1, e2, _⟩ := lane_attained (fun q => padded d N (128 * q + l)) K
    (by rw [show (lane (fun q => padded d N (128 * q + l)) K).1 = _ from e]; exact EReal.coe_lt_top _)
  have e3 : padded d N (128 * i + l) = d n := e1.trans e
  have hk : 128 * i + l < N := by
    by_contra hc
    rw [padded_of_ge d hc] at e3
    exact absurd e3.symm (EReal.coe_ne_top _)
  refine ⟨128 * i + l, ?_, ?_, hk⟩
  · rw [show (laneOf d N K l).2.1 = _ from e2, ← BitVec.ofNat_mul, ← BitVec.ofNat_add, Nat.mul_comm]
  · by_contra hc
    have := h.before (128 * i + l) (by omega)
    rw [padded_of_lt d hk] at e3
    exact absurd (EReal.coe_eq_coe_iff.mp e3) this.ne'

/-- and the first least column's lane names that column. -/
theorem laneOf_first_column (h : IsFirst d N n) (hK : N ≤ 128 * K) :
    (laneOf d N K (n % 128)).2.1 * 128#32 + BitVec.ofNat 32 (n % 128) = BitVec.ofNat 32 n := by
  have e := laneOf_first h hK
  obtain ⟨i, _, e1, e2, e4⟩ := lane_attained (fun q => padded d N (128 * q + n % 128)) K
    (by rw [show (lane (fun q => padded d N (128 * q + n % 128)) K).1 = _ from e]; exact EReal.coe_lt_top _)
  have e3 : padded d N (128 * i + n % 128) = d n := e1.trans e
  have hk : 128 * i + n % 128 < N := by
    by_contra hc
    rw [padded_of_ge d hc] at e3
    exact absurd e3.symm (EReal.coe_ne_top _)
  have hge : n ≤ 128 * i + n % 128 := by
    by_contra hc
    have := h.before (128 * i + n % 128) (by omega)
    rw [padded_of_lt d hk] at e3
    exact absurd (EReal.coe_eq_coe_iff.mp e3) this.ne'
  have hle : i ≤ n / 128 := by
    by_contra hc
    have := e4 (n / 128) (by omega)
    have e5 : 128 * (n / 128) + n % 128 = n := Nat.div_add_mod n 128
    rw [show (lane (fun q => padded d N (128 * q + n % 128)) K).1 = _ from e] at this
    simp only [e5, padded_of_lt d h.lt] at this
    exact absurd this (lt_irrefl _)
  have hi : i = n / 128 := by omega
  rw [show (laneOf d N K (n % 128)).2.1 = _ from e2, ← BitVec.ofNat_mul, ← BitVec.ofNat_add, hi]
  congr 1; omega

/-- A sum dealt out to 128 lanes is the sum over the row. -/
theorem sum_lanes {M : Type*} [AddCommMonoid M] (g : ℕ → M) (K : ℕ) :
    ∑ l ∈ Finset.range 128, ∑ q ∈ Finset.range K, g (128 * q + l) = ∑ i ∈ Finset.range (128 * K), g i := by
  rw [Finset.sum_comm]
  induction K with
  | zero => simp
  | succ K ih => rw [Finset.sum_range_succ, ih, Nat.mul_succ, Finset.sum_range_add]

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The lanes' sums together are the row's. -/
theorem sum_laneOf (d : ℕ → ℝ) (hK : N ≤ 128 * K) :
    ∑ l ∈ Finset.range 128, (laneOf d N K l).2.2 = ((∑ i ∈ Finset.range N, Real.exp (-d i) : ℝ) : EReal) := by
  have e : ∀ l, (laneOf d N K l).2.2 = ∑ q ∈ Finset.range K, Ideal.exp (0 - padded d N (128 * q + l)) := fun l => lane_sum _ _
  simp only [e]
  rw [sum_lanes (fun i => Ideal.exp (0 - padded d N i)), show 128 * K = N + (128 * K - N) by omega, Finset.sum_range_add,
    ← coe_sum]
  have z : ∑ x ∈ Finset.range (128 * K - N), Ideal.exp (0 - padded d N (N + x)) = 0 :=
    Finset.sum_eq_zero fun x _ => by
      rw [padded_of_ge d (by omega), zero_sub, EReal.neg_top, Ideal.exp_bot]
  rw [z, add_zero]
  refine Finset.sum_congr rfl fun i hi => ?_
  rw [padded_of_lt d (Finset.mem_range.mp hi), zero_sub, ← EReal.coe_neg, Ideal.exp_coe]

/-! ## Folds -/

theorem fold_min {ι : Type*} [Fintype ι] (g : ι → EReal) (v : EReal) (h : ∀ i, v ≤ g i) (h' : ∃ i, g i = v) :
    (Finset.univ : Finset ι).fold min ⊤ g = v := by
  obtain ⟨i, hi⟩ := h'
  refine le_antisymm ?_ ?_
  · rw [Finset.fold_min_le]; exact Or.inr ⟨i, Finset.mem_univ _, hi.le⟩
  · rw [Finset.le_fold_min]; exact ⟨le_top, fun i _ => h i⟩

theorem fold_max {ι : Type*} [Fintype ι] (g : ι → EReal) (v : EReal) (h : ∀ i, g i ≤ v) (h' : ∃ i, g i = v) :
    (Finset.univ : Finset ι).fold max ⊥ g = v := by
  obtain ⟨i, hi⟩ := h'
  refine le_antisymm ?_ ?_
  · rw [Finset.fold_max_le]; exact ⟨bot_le, fun i _ => h i⟩
  · rw [Finset.le_fold_max]; exact Or.inr ⟨i, Finset.mem_univ _, hi.ge⟩

/-- The least of words none of which is negative. -/
theorem toNat_fold_minsi {ι : Type*} (s : Finset ι) (g : ι → BitVec 32) (hg : ∀ i ∈ s, (g i).toNat < 2 ^ 31) :
    (s.fold IntOp.minsi 2147483647#32 g).toNat = s.fold min 2147483647 (fun i => (g i).toNat)
      ∧ (s.fold IntOp.minsi 2147483647#32 g).toNat < 2 ^ 31 := by
  classical
  induction s using Finset.induction_on with
  | empty => simp
  | insert a s ha ih =>
    obtain ⟨e, hlt⟩ := ih fun i hi => hg i (Finset.mem_insert_of_mem hi)
    have hga := hg a (Finset.mem_insert_self _ _)
    rw [Finset.fold_insert ha, Finset.fold_insert ha, WordArith.toNat_minsi_of_lt _ _ hga hlt, e]
    exact ⟨rfl, lt_of_le_of_lt (min_le_left _ _) hga⟩

theorem fold_minsi {ι : Type*} [Fintype ι] (g : ι → BitVec 32) (n : ℕ) (hn : n < 2 ^ 31)
    (h : ∀ i, n ≤ (g i).toNat ∧ (g i).toNat < 2 ^ 31) (h' : ∃ i, g i = BitVec.ofNat 32 n) :
    (Finset.univ : Finset ι).fold IntOp.minsi 2147483647#32 g = BitVec.ofNat 32 n := by
  obtain ⟨e, -⟩ := toNat_fold_minsi Finset.univ g fun i _ => (h i).2
  obtain ⟨i, hi⟩ := h'
  have hm : (BitVec.ofNat 32 n).toNat = n := by rw [BitVec.toNat_ofNat]; exact Nat.mod_eq_of_lt (by omega)
  refine BitVec.eq_of_toNat_eq ?_
  rw [e, hm]
  refine le_antisymm ?_ ?_
  · rw [Finset.fold_min_le]; exact Or.inr ⟨i, Finset.mem_univ _, by rw [hi, hm]⟩
  · rw [Finset.le_fold_min]; exact ⟨by omega, fun i _ => (h i).1⟩

/-- A fold that always keeps one of the two ends at a member that is kept against every other. -/
theorem foldl_keeps {α : Type*} (f : α → α → α) (hf : ∀ a b, f a b = a ∨ f a b = b) (p : α) :
    ∀ (l : List α) (a : α), (a = p ∨ p ∈ l) → (f a p = p ∧ f p a = p) → (∀ q ∈ l, f q p = p ∧ f p q = p) →
      l.foldl f a = p
  | [], a, h, _, _ => by simpa using h
  | b :: l, a, h, ha, hl => by
    have hb := hl b List.mem_cons_self
    rw [List.foldl_cons]
    refine foldl_keeps f hf p l (f a b) ?_ ?_ fun q hq => hl q (List.mem_cons_of_mem _ hq)
    · rcases h with rfl | h
      · exact Or.inl hb.2
      · rcases List.mem_cons.mp h with rfl | h
        · exact Or.inl ha.1
        · exact Or.inr h
    · rcases hf a b with e | e <;> rw [e]
      · exact ha
      · exact hb

/-! ## The shifted logarithm -/

/-- The logarithm of the sum of exponentials, shifted by the least distance and back. -/
theorem log_shift (s : Finset ℕ) (hs : s.Nonempty) (d : ℕ → ℝ) (v : ℝ) :
    Real.log (∑ i ∈ s, Real.exp (-d i - -v)) = Real.log (∑ i ∈ s, Real.exp (-d i)) + v := by
  have e : ∑ i ∈ s, Real.exp (-d i - -v) = (∑ i ∈ s, Real.exp (-d i)) * Real.exp v := by
    rw [Finset.sum_mul]
    exact Finset.sum_congr rfl fun i _ => by rw [sub_neg_eq_add, Real.exp_add]
  rw [e, Real.log_mul (Finset.sum_pos (fun i _ => Real.exp_pos _) hs).ne' (Real.exp_pos _).ne', Real.log_exp]

end Cert.RowMath

end
-- ==== Proof.KernelRow.lean ====
/-
  The kernel's running state over the extended reals, lane by lane, and what it makes of it.

  For real embeddings and centroids the distance the kernel forms is the root of the squared distance. The state after the last
  point holds in each lane of each row what the row's columns of that lane leave; the least distance, the label and the loss
  are read off it.
-/
module

public import proofs.«01_k».proof.Proof.ChunkValue
public import proofs.«01_k».proof.Proof.RowMath

@[expose] public section

set_option maxRecDepth 16384

noncomputable section

namespace Cert.KernelValue

open Cert.KernelIdeal Cert.KernelIdeal.Gen Cert.RowMath Idealize.ShloMosaic Idealize.ShloMosaic.ValueIdx
open scoped BigOperators

/-! ## The distance -/

/-- The squared distance of two rows, written out as both programs do. -/
def squared (x c : Fin 32 → ℝ) : ℝ := (∑ k, x k * x k) + (∑ k, c k * c k) - ((∑ k, x k * c k) + ∑ k, x k * c k)

/-- The distance of two rows. -/
def distance (x c : Fin 32 → ℝ) : ℝ := Real.sqrt (squared x c)

theorem squared_nonneg (x c : Fin 32 → ℝ) : 0 ≤ squared x c := by
  have e : squared x c = ∑ k, (x k - c k) * (x k - c k) := by
    unfold squared
    rw [← Finset.sum_add_distrib, ← Finset.sum_add_distrib, ← Finset.sum_sub_distrib]
    exact Finset.sum_congr rfl fun k _ => by ring
  rw [e]
  exact Finset.sum_nonneg fun k _ => mul_self_nonneg _

/-- A real that is not negative times its reciprocal root is its root. -/
theorem mul_rsqrt (s : ℝ) (hs : 0 ≤ s) : (s : EReal) * Ideal.rsqrt (s : EReal) = ((Real.sqrt s : ℝ) : EReal) := by
  rw [Ideal.rsqrt_coe, if_neg (not_lt.mpr hs)]
  split
  · next h => rw [h, Real.sqrt_zero, EReal.coe_zero, zero_mul]
  · next h =>
    have hp : 0 < Real.sqrt s := Real.sqrt_pos.mpr (lt_of_le_of_ne hs (Ne.symm h))
    rw [← EReal.coe_mul]
    congr 1
    rw [← div_eq_mul_inv, div_eq_iff hp.ne', Real.mul_self_sqrt hs]

/-- The sum of the products of two rows of reals. -/
theorem sum_products (x c : Fin 32 → ℝ) : ∑ k, ((x k : ℝ) : EReal) * ((c k : ℝ) : EReal) = ((∑ k, x k * c k : ℝ) : EReal) := by
  rw [← coe_sum]; exact Finset.sum_congr rfl fun k _ => (EReal.coe_mul _ _).symm

/-- The kernel's distance of two rows of reals. -/
theorem away_real (x c : Fin 32 → ℝ) :
    away ((∑ k, x k * x k : ℝ) : EReal) ((∑ k, c k * c k : ℝ) : EReal) ((∑ k, x k * c k : ℝ) : EReal) = ((distance x c : ℝ) : EReal) := by
  unfold away
  rw [← EReal.coe_add, ← EReal.coe_add, ← EReal.coe_sub]
  exact mul_rsqrt _ (squared_nonneg x c)

/-! ## A block of real centroids -/

/-- Block `b` of the centroids `y`, on the columns inside the array. -/
def Holds (X : FVec Ideal S32x4096 .f32) (y : ℕ → Fin 32 → ℝ) (b : ℕ) : Prop :=
  ∀ (k : Fin 32) (n : Fin 4096), 4096 * b + n.val < 100000 → X (ix2 k n) = ((y (4096 * b + n.val) k : ℝ) : EReal)

/-- The distances of row `r` of `x` from the centroids. -/
def row (x : Fin 1024 → Fin 32 → ℝ) (y : ℕ → Fin 32 → ℝ) (r : Fin 1024) (n : ℕ) : ℝ := distance (x r) (y n)

variable {x0 : FVec Ideal S1024x32 .f32} {X : FVec Ideal S32x4096 .f32} {e : FVec Ideal S1024x128 .f32}
  {x : Fin 1024 → Fin 32 → ℝ} {y : ℕ → Fin 32 → ℝ} {b : ℕ}

/-- The state at a row and a lane. -/
def laneAt (s : State Ideal) (r : Fin 1024) (l : Fin 128) : Lane := (s.1 (ix2 r l), s.2.1 (ix2 r l), s.2.2 (ix2 r l))

/-- A chunk's entry is the distance of its row from its column. -/
theorem chunk_row (hx : ∀ r k, x0 (ix2 r k) = ((x r k : ℝ) : EReal)) (hX : Holds X y b)
    (he : ∀ r l, e (ix2 r l) = ((∑ k, x r k * x r k : ℝ) : EReal)) (q : ℕ) (hq : q < 32) (r : Fin 1024) (l : Fin 128)
    (hl : 4096 * b + (128 * q + l.val) < 100000) :
    chunk (k0_pay6 x0 X) (k0_pay7 X) e q hq (ix2 r l) = ((row x y r (4096 * b + (128 * q + l.val)) : ℝ) : EReal) := by
  rw [chunk_apply, products_apply, columnNorm_apply, he]
  simp only [hx, fun k => hX k ⟨128 * q + l.val, by have := l.isLt; omega⟩ hl]
  rw [sum_products, sum_products]
  exact away_real _ _

/-- Folding a chunk in is a step of every lane. -/
theorem laneAt_fold (w : BitVec 32) (d : FVec Ideal S1024x128 .f32) (s : State Ideal) (r : Fin 1024) (l : Fin 128) :
    laneAt (fold w d s) r l = step w (d (ix2 r l)) (laneAt s r l) := by
  have hb : ∀ {α : Type} (p : Prop) [Decidable p] (u v : α), Scalar.select (BitVec.ofBool (decide p)) u v = if p then u else v := by
    intro α p _ u v
    by_cases h : p <;> simp [h, Scalar.select]
  have hz : (Scalar.ofBits (F := Ideal) .f32 0x00000000#32 : EReal) = 0 := Ideal.ofBits_zero_f32
  refine Prod.ext ?_ (Prod.ext ?_ ?_)
  · exact hb (d (ix2 r l) < s.1 (ix2 r l)) _ _
  · exact hb (d (ix2 r l) < s.1 (ix2 r l)) _ _
  · show s.2.2 (ix2 r l) + Ideal.exp (Scalar.ofBits (F := Ideal) .f32 0x00000000#32 - d (ix2 r l)) = _
    rw [hz]; rfl

/-- The number of chunk `q` of block `b`. -/
theorem number_eq (b q : ℕ) : number (BitVec.ofNat 32 b) q = BitVec.ofNat 32 (32 * b + q) := by
  show BitVec.ofNat 32 b * BitVec.ofNat 32 32 + BitVec.ofNat 32 q = _
  rw [← BitVec.ofNat_mul, ← BitVec.ofNat_add, Nat.mul_comm]

/-- The first chunks of a block carry every lane on by as many steps. -/
theorem laneAt_chunks (hx : ∀ r k, x0 (ix2 r k) = ((x r k : ℝ) : EReal)) (hX : Holds X y b)
    (he : ∀ r l, e (ix2 r l) = ((∑ k, x r k * x r k : ℝ) : EReal)) (s : State Ideal)
    (hs : ∀ r l, laneAt s r l = laneOf (row x y r) 100000 (32 * b) l.val) (n : ℕ) (hn : n ≤ 32)
    (hb : 4096 * b + 128 * n ≤ 100000) (r : Fin 1024) (l : Fin 128) :
    laneAt (chunks (k0_pay6 x0 X) (k0_pay7 X) e (BitVec.ofNat 32 b) s n hn) r l = laneOf (row x y r) 100000 (32 * b + n) l.val := by
  induction n with
  | zero => exact hs r l
  | succ n ih =>
    have hl := l.isLt
    unfold chunks
    rw [laneAt_fold, ih (by omega) (by omega), chunk_row hx hX he n _ r l (by omega), number_eq]
    unfold laneOf
    show _ = step (BitVec.ofNat 32 (32 * b + n)) (padded (row x y r) 100000 (128 * (32 * b + n) + l.val)) _
    rw [padded_of_lt _ (by omega), show 4096 * b + (128 * n + l.val) = 128 * (32 * b + n) + l.val by omega]; rfl

/-- A whole block carries every lane on by thirty-two steps. -/
theorem laneAt_block (hx : ∀ r k, x0 (ix2 r k) = ((x r k : ℝ) : EReal)) (hX : Holds X y b)
    (he : ∀ r l, e (ix2 r l) = ((∑ k, x r k * x r k : ℝ) : EReal)) (s : State Ideal)
    (hs : ∀ r l, laneAt s r l = laneOf (row x y r) 100000 (32 * b) l.val) (hb : b < 24) (r : Fin 1024) (l : Fin 128) :
    laneAt (block x0 X e (BitVec.ofNat 32 b) s) r l = laneOf (row x y r) 100000 (32 * (b + 1)) l.val :=
  laneAt_chunks hx hX he s hs 32 (Nat.le_refl 32) (by omega) r l

/-- The last block carries every lane on by fourteen. -/
theorem laneAt_lastBlock (hx : ∀ r k, x0 (ix2 r k) = ((x r k : ℝ) : EReal)) (hX : Holds X y 24)
    (he : ∀ r l, e (ix2 r l) = ((∑ k, x r k * x r k : ℝ) : EReal)) (s : State Ideal)
    (hs : ∀ r l, laneAt s r l = laneOf (row x y r) 100000 768 l.val) (r : Fin 1024) (l : Fin 128) :
    laneAt (lastBlock x0 X e (BitVec.ofNat 32 24) s) r l = laneOf (row x y r) 100000 782 l.val := by
  have hl := l.isLt
  unfold lastBlock
  rw [laneAt_fold, laneAt_chunks hx hX he s hs 13 (by decide) (by omega) r l, number_eq, edge_apply]
  show _ = step (BitVec.ofNat 32 781) (padded (row x y r) 100000 (128 * 781 + l.val)) _
  congr 1
  split
  · rw [padded_of_lt _ (by omega), chunk_row hx hX he 13 _ r l (by omega),
      show 4096 * 24 + (128 * 13 + l.val) = 128 * 781 + l.val by omega]
  · rw [padded_of_ge _ (by omega)]

/-- The lanes before the first block. -/
theorem laneAt_start (r : Fin 1024) (l : Fin 128) : laneAt start r l = laneOf (row x y r) 100000 (32 * 0) l.val := by
  have h1 : (k0_pay2 : FVec Ideal S1024x128 .f32) (ix2 r l) = (⊤ : EReal) := by
    unfold k0_pay2; rw [shapeCast_self]; exact bound_eq
  have h2 : k0_pay3 (ix2 r l) = 0#32 := by
    unfold k0_pay3; rw [shapeCast_self]; rfl
  have h3 : (k0_pay4 : FVec Ideal S1024x128 .f32) (ix2 r l) = (0 : EReal) := by
    unfold k0_pay4; rw [shapeCast_self]; exact Ideal.ofBits_zero_f32
  exact Prod.ext h1 (Prod.ext h2 h3)

/-! ## What is read off the last state -/

instance : Std.Commutative (FloatOps.minimumf (F := Ideal) (φ := .f32)) := inferInstanceAs (Std.Commutative (min : EReal → EReal → EReal))
instance : Std.Associative (FloatOps.minimumf (F := Ideal) (φ := .f32)) := inferInstanceAs (Std.Associative (min : EReal → EReal → EReal))

theorem ofBits_top : Ideal.ofBits .f32 0x7F800000#32 = ⊤ := by simp [Ideal.ofBits, Ideal.ieee]

theorem ofBits_1024 : Ideal.ofBits .f32 0x44800000#32 = ((1024 : ℝ) : EReal) := by
  simp [Ideal.ofBits, Ideal.ieee]; rw [← EReal.coe_mul]; norm_num

theorem lift_lane (r : Fin 1024) (l : Fin 128) : reduces_S1024x128_S1024.lift (ix1 r) l = ix2 r l := Shape.idx_ext₂ rfl rfl

/-- The least distance of a row is the least over its lanes. -/
theorem least_apply (s : State Ideal) (r : Fin 1024) (u : Fin 1) :
    least s (ix2 r u) = (Finset.univ : Finset (Fin 128)).fold min ⊤ (fun l => (laneAt s r l).1) := by
  unfold least k0_pay12; dsimp only
  rw [shapeCast_apply _ _ _ (ix1 r) (by
    have := u.isLt
    rw [Shape.rowMajor_val_one, Shape.rowMajor_val_two]; simp)]
  refine (multiReduction_minimumf_eq_fold ..).trans ((reduces_S1024x128_S1024.fold_filter_drop_single _ _ _ _).trans ?_)
  rw [show FloatOps.ofBits (F := Ideal) .f32 0x7F800000#32 = (⊤ : EReal) from ofBits_top]
  exact Finset.fold_congr fun l _ => congrArg s.1 (lift_lane r l)

/-- The label of a row is the least column among the lanes that hold its least distance. -/
theorem labels_apply (s : State Ideal) (r : Fin 1024) (u : Fin 1) :
    labels s (ix2 r u) = (Finset.univ : Finset (Fin 128)).fold IntOp.minsi 2147483647#32 (fun l =>
      if (laneAt s r l).1 = least s (ix2 r 0) then (laneAt s r l).2.1 * 128#32 + BitVec.ofNat 32 l.val else 2147483647#32) := by
  unfold labels
  rw [shapeCast_apply _ _ _ (ix1 r) (by
    have := u.isLt
    rw [Shape.rowMajor_val_one, Shape.rowMajor_val_two]; simp)]
  refine (multiReductionI_eq_fold ..).trans ((reduces_S1024x128_S1024.fold_filter_drop_single _ _ _ _).trans ?_)
  refine Finset.fold_congr fun (l : Fin 128) _ => ?_
  refine (congrArg _ (lift_lane r l)).trans ?_
  rw [select_apply, cmpf_apply, broadcastTo_apply _ _ _ (ix2 r 0) (by intro a; fin_cases a <;> simp)]
  show Scalar.select (BitVec.ofBool (decide ((laneAt s r l).1 = least s (ix2 r 0))))
    ((laneAt s r l).2.1 * 128#32 + iota .tc S1024x128 32 [1] iota_S1024x128_d1_w32 (ix2 r l)) 2147483647#32 = _
  rw [iota_single_apply]
  by_cases h : (laneAt s r l).1 = least s (ix2 r 0) <;> simp [h, Scalar.select]

/-- The loss is the mean over the rows of the logarithm of the row's sum plus its least distance. -/
theorem loss_apply (s : State Ideal) (u v : Fin 1) :
    loss s (ix2 u v) = Ideal.div (∑ r : Fin 1024, (Ideal.log (∑ l : Fin 128, (laneAt s r l).2.2) + least s (ix2 r 0))) ((1024 : ℝ) : EReal) := by
  unfold loss k0_pay14; dsimp only
  rw [divf_apply, shapeCast_apply _ _ _ (ix1 v) (by
    have := u.isLt; have := v.isLt
    rw [Shape.rowMajor_val_one, Shape.rowMajor_val_two]; simp)]
  refine congrArg₂ Ideal.div ?_ ofBits_1024
  refine (Ideal.multiReduction_add_single ..).trans (Finset.sum_congr rfl fun (r : Fin 1024) _ => ?_)
  have e : reduces_S1024x1_S1.lift (ix1 v) r = ix2 r 0 := Shape.idx_ext₂ rfl (congrArg Fin.val (Subsingleton.elim (α := Fin 1) _ _))
  rw [e, addf_apply]
  refine congrArg₂ (· + ·) (congrArg Ideal.log ?_) rfl
  rw [shapeCast_apply _ _ _ (ix1 r) (by
    rw [Shape.rowMajor_val_one, Shape.rowMajor_val_two]; simp)]
  refine (Ideal.multiReduction_add_single ..).trans (Finset.sum_congr rfl fun (l : Fin 128) _ => ?_)
  exact congrArg s.2.2 (lift_lane r l)

/-! ## At the last state -/

variable {s : State Ideal}

theorem least_last (hs : ∀ r l, laneAt s r l = laneOf (row x y r) 100000 782 l.val) (r : Fin 1024) (u : Fin 1) {n : ℕ}
    (h : IsFirst (row x y r) 100000 n) : least s (ix2 r u) = ((row x y r n : ℝ) : EReal) := by
  rw [least_apply]
  simp only [hs]
  exact fold_min _ _ (fun l => le_laneOf h _) ⟨⟨n % 128, by omega⟩, laneOf_first h (by omega)⟩

theorem labels_last (hs : ∀ r l, laneAt s r l = laneOf (row x y r) 100000 782 l.val) (r : Fin 1024) (u : Fin 1) {n : ℕ}
    (h : IsFirst (row x y r) 100000 n) : labels s (ix2 r u) = BitVec.ofNat 32 n := by
  rw [labels_apply, least_last hs r 0 h]
  simp only [hs]
  have hn := h.lt
  refine fold_minsi _ n (by omega) (fun l => ?_) ⟨⟨n % 128, by omega⟩, ?_⟩
  · split
    · next e =>
      obtain ⟨k, e, h1, h2⟩ := laneOf_column h (by omega) l.isLt e
      rw [e, BitVec.toNat_ofNat, Nat.mod_eq_of_lt (by omega)]
      exact ⟨h1, by omega⟩
    · exact ⟨by rw [show (2147483647#32).toNat = 2147483647 from rfl]; omega, by decide⟩
  · rw [if_pos (laneOf_first h (by omega))]
    exact laneOf_first_column h (by omega)

/-- What a row adds to the loss: the logarithm of its sum of exponentials, plus its least distance. -/
theorem summand_last (hs : ∀ r l, laneAt s r l = laneOf (row x y r) 100000 782 l.val) (r : Fin 1024) {n : ℕ}
    (h : IsFirst (row x y r) 100000 n) :
    Ideal.log (∑ l : Fin 128, (laneAt s r l).2.2) + least s (ix2 r 0)
      = ((Real.log (∑ i ∈ Finset.range 100000, Real.exp (-row x y r i)) + row x y r n : ℝ) : EReal) := by
  rw [least_last hs r 0 h]
  simp only [hs]
  rw [Fin.sum_univ_eq_sum_range (fun l => (laneOf (row x y r) 100000 782 l).2.2) 128, sum_laneOf _ (by omega), Ideal.log_coe,
    if_neg (not_le.mpr (Finset.sum_pos (fun i _ => Real.exp_pos _) ⟨0, Finset.mem_range.mpr (by omega)⟩)), EReal.coe_add]

end Cert.KernelValue

end
-- ==== Proof.KernelResult.lean ====
/-
  The kernel's two results over the extended reals, for real arguments.

  The windows' blocks are read back to the arguments, the lanes are followed through the twenty-five grid points, and the arrays the
  launch leaves are carried through the reshapes that follow it.
-/
module

public import proofs.«01_k».proof.Proof.GridRun
public import proofs.«01_k».proof.Proof.KernelRow
public import Idealize.ShloMosaic.Lib.Pipeline.ValueKit.Geometry
public import Idealize.ShloMosaic.Lib.StableHlo.Run

@[expose] public section

set_option maxRecDepth 16384

noncomputable section

namespace Cert.KernelValue

open Cert.KernelIdeal Cert.KernelIdeal.Gen Cert.RowMath
open Idealize.ShloMosaic Idealize.ShloMosaic.TcCoe Idealize.ShloMosaic.ValueIdx Idealize.ShloMosaic.StableHlo
open Idealize.SL Idealize.SL.Sem
open Idealize.ShloMosaic.Pipeline (Dat Cfg Window)

variable {F : FTy → Type} [FloatOps F] [Named F]
variable (m : (ℓ : Loc nD τ sig) → Buf (Elt F) ℓ) (ρ : Dev nD → PrngReg)

/-! ## The windows' blocks -/

theorem coords_val (t : Fin cfg0.N) : (grid0.coords t 0).val = t.val := by
  revert t; decide +kernel

theorem index_embeddings (t : Fin cfg0.N) : ∀ a, win0_0.index t a = 0 := by
  revert t; decide +kernel

theorem index_centroids (t : Fin cfg0.N) : ∀ a, win0_1.index t a = ![0, t.val] a := by
  revert t; decide +kernel

theorem moved_full (t : Fin cfg0.N) (ht : t.val < 24) : ∀ a, win0_1.xsize (grid0.coords t) a = ![32, 4096] a := by
  revert t; decide +kernel

/-- Every point sees all the embeddings. -/
theorem embeddings_eq (c : Dev nD) (t : Fin cfg0.N) : iblk m c 0 t = m ((c : Thread nD τ).loc main_arg0) := by
  rw [← V_main_arg0 m c]
  funext j
  show V m c main_arg0 (((cfg0.win 0).blk t).view.emb j) = V m c main_arg0 j
  congr 1
  funext a
  exact Fin.ext (win0_0.rect_emb_val_of_index_zero t a (index_embeddings t a) j)

/-- The transposed centroids, as the launch finds them. -/
theorem transposed (c : Dev nD) : V m c main_v0
    = transpose S32x100000 [1, 0] (m ((c : Thread nD τ).loc main_arg1)) transposes_S100000x32_S32x100000_1_0 := by
  show StableHlo.after (hostOps0 ++ []) (fun b => m (c, b)) (Proc.devRef .tc main_v0) = _
  simp only [hostOps0, List.append_nil]
  after_results

/-- A column of a point's block that lies inside the array is the centroid of that number. -/
theorem centroids_apply (c : Dev nD) (t : Fin cfg0.N) (k : Fin 32) (n : Fin 4096) (h : 4096 * t.val + n.val < 100000) :
    centroids m c t (ix2 k n) = m ((c : Thread nD τ).loc main_arg1) (ix2 ⟨4096 * t.val + n.val, h⟩ k) := by
  have hN : t.val < 25 := lt_of_lt_of_eq t.isLt (show cfg0.N = 25 from N_0)
  have hk := k.isLt
  have hn := n.isLt
  have hm : win0_1.moved (grid0.coords t) (ix2 k n) = true := (win0_1.moved_iff _ _).mpr fun a => by
    by_cases ht : t.val < 24
    · rw [moved_full t ht a]
      fin_cases a
      · exact hk
      · exact hn
    · rw [moved_last t (by omega) a]
      fin_cases a
      · exact hk
      · show n.val < 1696; omega
  unfold centroids Window.fill
  rw [dif_pos hm]
  refine Eq.trans ?_ (transpose_ix2_apply (m ((c : Thread nD τ).loc main_arg1)) transposes_S100000x32_S32x100000_1_0 k ⟨4096 * t.val + n.val, h⟩)
  refine Eq.trans ?_ (congrFun (transposed m c) _)
  show V m c main_v0 (((cfg0.win 1).blk t).view.emb _) = V m c main_v0 _
  congr 1
  funext a
  refine Fin.ext ((win0_1.rect_emb_val t _ a).trans ?_)
  rw [index_centroids t a]
  fin_cases a
  · show 0 * 32 + k.val = k.val; omega
  · show t.val * 4096 + n.val = 4096 * t.val + n.val; omega

/-! ## The arrays the launch leaves -/

theorem whole_labels : (cfg0.win 2).WholeAt lastPoint := by decide +kernel
theorem whole_loss : (cfg0.win 3).WholeAt lastPoint := by decide +kernel

theorem array_labels (c : Dev nD) : (dats m 0 c).arrAt 2 cfg0.N = labels (final m c) :=
  (dats m 0 c).arrAt_eq_of_after_last 2 lastPoint whole_labels _ fun j => by
    rw [after_2]; generalize labels (final m c) = L; rfl

theorem array_loss (c : Dev nD) : (dats m 0 c).arrAt 3 cfg0.N = loss (final m c) :=
  (dats m 0 c).arrAt_eq_of_after_last 3 lastPoint whole_loss _ fun j => by
    rw [after_3]; generalize loss (final m c) = L; rfl

theorem arrays_injective : Function.Injective (Pipeline.arrRef spec0) := by decide

theorem tail_loss (c : Dev nD) : Pipeline.afterTail₀ cfgs (dats m) 0 (V0 m) [hostOps1] c main_v2
    = fun i => shapeCast S_ (loss (final m c)) shapeCasts_S1x1_S_ i := by
  unfold Pipeline.afterTail₀
  rw [← array_loss m c, ← Pipeline.withArrays_arr spec0 arrays_injective c (V0 m c) (fun w => (dats m 0 c).arrAt w cfg0.N) 3]
  simp only [List.flatten_cons, List.flatten_nil, List.append_nil, hostOps1]
  after_results
  rfl

theorem tail_labels (c : Dev nD) : Pipeline.afterTail₀ cfgs (dats m) 0 (V0 m) [hostOps1] c main_v3
    = fun i => shapeCast S1024 (labels (final m c)) shapeCasts_S1024x1_S1024 i := by
  unfold Pipeline.afterTail₀
  rw [← array_labels m c, ← Pipeline.withArrays_arr spec0 arrays_injective c (V0 m c) (fun w => (dats m 0 c).arrAt w cfg0.N) 2]
  simp only [List.flatten_cons, List.flatten_nil, List.append_nil, hostOps1]
  after_results
  rfl

/-- The kernel's run: the results are the loss and the labels of the last point's state, the arguments end unchanged. -/
theorem run (hedge : Edge F) : θ_run defs (onTc (τ := τ) (main (F := F))) ⟨m, fun _ => 0, ρ⟩ (fun r => ∀ c : Dev nD,
      r.2.mem ((c.tc : Thread nD τ).loc main_v2) = (fun i => shapeCast S_ (loss (final m c)) shapeCasts_S1x1_S_ i)
      ∧ r.2.mem ((c.tc : Thread nD τ).loc main_v3) = (fun i => shapeCast S1024 (labels (final m c)) shapeCasts_S1024x1_S1024 i)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_and ((θ_run defs _ _).mono (fun _ h c => (h.1 c).2 main_v2 (Pipeline.mem_restRefs_of main_v2 (by decide) (by decide)))
      (launched m ρ hedge))
    ((θ_run defs _ _).mono (fun _ h => h) (launched m ρ hedge)) |> (θ_run defs _ _).mono fun r h c =>
      ⟨(h.1 c).trans (tail_loss m c),
        ((h.2.1 c).2 main_v3 (Pipeline.mem_restRefs_of main_v3 (by decide) (by decide))).trans (tail_labels m c),
        ((h.2.1 c).1 0).trans (((dats m 0 c).arrAt_in 0 rfl _).trans ((A_eq m c 0).trans (V_main_arg0 m c))),
        ((h.2.1 c).2 main_arg1 (Pipeline.mem_restRefs_of main_arg1 (by decide) (by decide))).trans (W_main_arg1 m (dats m) c)⟩

/-! ## The lanes, point by point -/

section Ideal

variable (M : (ℓ : Loc nD τ sig) → Buf (Elt Ideal) ℓ) (c : Dev nD) {x : Fin 1024 → Fin 32 → ℝ} {y : ℕ → Fin 32 → ℝ}

/-- The arguments are the reals `x` and `y`. -/
def Real (x : Fin 1024 → Fin 32 → ℝ) (y : ℕ → Fin 32 → ℝ) : Prop :=
  (∀ r k, M ((c : Thread nD τ).loc main_arg0) (ix2 r k) = ((x r k : ℝ) : EReal))
    ∧ ∀ (n : Fin 100000) k, M ((c : Thread nD τ).loc main_arg1) (ix2 n k) = ((y n.val k : ℝ) : EReal)

variable {M c}

theorem embeddings_real (h : Real M c x y) (t : Fin cfg0.N) (r : Fin 1024) (k : Fin 32) :
    (iblk M c 0 t : FVec Ideal S1024x32 .f32) (ix2 r k) = ((x r k : ℝ) : EReal) := by
  rw [embeddings_eq]; exact h.1 r k

theorem centroids_real (h : Real M c x y) (t : Fin cfg0.N) : Holds (centroids M c t) y t.val := fun k n hn => by
  rw [centroids_apply M c t k n hn]; exact h.2 ⟨_, hn⟩ k

theorem norms_real (h : Real M c x y) (r : Fin 1024) (l : Fin 128) : norms M c (ix2 r l) = ((∑ k, x r k * x r k : ℝ) : EReal) := by
  unfold norms
  rw [rowNorm_apply]
  simp only [embeddings_real h]
  exact sum_products _ _

/-- Before point `n` every lane has taken `32 n` steps. -/
theorem before_lane (h : Real M c x y) (n : ℕ) (hn : n ≤ cfg0.N) (h24 : n ≤ 24) (r : Fin 1024) (l : Fin 128) :
    laneAt (before M c n hn) r l = laneOf (row x y r) 100000 (32 * n) l.val := by
  induction n generalizing r l with
  | zero => exact laneAt_start r l
  | succ n ih =>
    unfold before
    rw [coords_val]
    exact laneAt_block (embeddings_real h _) (centroids_real h _) (norms_real h) _ (fun r l => ih _ (by omega) r l) (show n < 24 by omega) r l

/-- After the last point every lane has taken all its steps. -/
theorem final_lane (h : Real M c x y) (r : Fin 1024) (l : Fin 128) :
    laneAt (final M c) r l = laneOf (row x y r) 100000 782 l.val := by
  unfold final
  rw [coords_val]
  exact laneAt_lastBlock (embeddings_real h _) (centroids_real h lastPoint) (norms_real h) _
    (fun r l => before_lane h 24 _ (by omega) r l) r l

/-- The label of a row is the first of its nearest centroids. -/
theorem labels_real (h : Real M c x y) (r : Fin 1024) {n : ℕ} (hn : IsFirst (row x y r) 100000 n) :
    shapeCast S1024 (labels (final M c)) shapeCasts_S1024x1_S1024 (ix1 r) = BitVec.ofNat 32 n := by
  rw [shapeCast_apply _ _ _ (ix2 r 0) (by rw [Shape.rowMajor_val_one, Shape.rowMajor_val_two]; simp)]
  exact labels_last (final_lane h) r 0 hn

/-- The loss is the mean of the rows' terms. -/
theorem loss_real (h : Real M c x y) {n : Fin 1024 → ℕ} (hn : ∀ r, IsFirst (row x y r) 100000 (n r)) (i : S_.Idx) :
    shapeCast S_ (loss (final M c)) shapeCasts_S1x1_S_ i
      = Ideal.div (∑ r, ((Real.log (∑ i ∈ Finset.range 100000, Real.exp (-row x y r i)) + row x y r (n r) : ℝ) : EReal)) ((1024 : ℝ) : EReal) := by
  rw [shapeCast_apply _ _ _ (ix2 0 0) (by rw [Shape.rowMajor_val_two]; simp), loss_apply]
  congr 1
  exact Finset.sum_congr rfl fun r _ => summand_last (final_lane h) r (hn r)

end Ideal

end Cert.KernelValue

end
-- ==== Proof.RefValue.lean ====
/-
  The reference's two results over the extended reals, for real arguments.

  Every entry of the table is the distance of its row from its centroid; the label is the first column of the least entry, and the
  loss is the mean of each row's logarithm of the sum of exponentials plus its least distance.
-/
module

public import proofs.«01_k».proof.Proof.RefRun
public import proofs.«01_k».proof.Proof.KernelRow
public import Idealize.ShloMosaic.Lib.IdealHost
public import Idealize.ShloMosaic.Lib.StackMember
public import Idealize.ShloMosaic.Lib.ReduceAll
public import Idealize.ShloMosaic.Lib.WordCmp

@[expose] public section

set_option maxRecDepth 16384

noncomputable section

namespace Cert.RefRun

open Cert.ReferenceIdeal Cert.ReferenceIdeal.Gen Cert.RowMath Idealize.ShloMosaic Idealize.ShloMosaic.ValueIdx
open Cert.KernelValue (squared squared_nonneg distance row sum_products ofBits_top ofBits_1024)
open scoped BigOperators

/-! ## The table of distances -/

theorem reduces_rows : S1024x32.Reduces [1] S1024 := by decide
theorem reduces_centroids : S100000x32.Reduces [1] S100000 := by decide
theorem reduces_table : S1024x100000.Reduces [1] S1024 := by decide

theorem ofBits_two : Ideal.ofBits .f32 0x40000000#32 = ((2 : ℝ) : EReal) := by
  simp [Ideal.ofBits, Ideal.ieee]; rw [← EReal.coe_mul]; norm_num

theorem ofBits_bot : Ideal.ofBits .f32 0xFF800000#32 = ⊥ := by simp [Ideal.ofBits, Ideal.ieee]

variable {x0 : FVec Ideal S1024x32 .f32} {c0 : FVec Ideal S100000x32 .f32} {x : Fin 1024 → Fin 32 → ℝ} {y : ℕ → Fin 32 → ℝ}

theorem rowNorms_apply (hx : ∀ r k, x0 (ix2 r k) = ((x r k : ℝ) : EReal)) (r : Fin 1024) :
    Host.reduceAdd (mulf x0 x0) (constant S_ .f32 0x00000000#32) reducesTo_S1024x32_S1024_d1 h_S_ (ix1 r)
      = ((∑ k, x r k * x r k : ℝ) : EReal) := by
  rw [hostReduceAdd_apply, Ideal.hostReduceAdd_single _ reduces_rows, constant_apply, Ideal.ofBits_zero_f32, zero_add, ← sum_products]
  refine Finset.sum_congr rfl fun (k : Fin 32) _ => ?_
  have e : reduces_rows.lift (ix1 r) k = ix2 r k := Shape.idx_ext₂ rfl rfl
  rw [e, mulf_apply, hx]

theorem centroidNorms_apply (hc : ∀ (n : Fin 100000) k, c0 (ix2 n k) = ((y n.val k : ℝ) : EReal)) (n : Fin 100000) :
    Host.reduceAdd (mulf c0 c0) (constant S_ .f32 0x00000000#32) reducesTo_S100000x32_S100000_d1 h_S_ (ix1 n)
      = ((∑ k, y n.val k * y n.val k : ℝ) : EReal) := by
  rw [hostReduceAdd_apply, Ideal.hostReduceAdd_single _ reduces_centroids, constant_apply, Ideal.ofBits_zero_f32, zero_add, ← sum_products]
  refine Finset.sum_congr rfl fun (k : Fin 32) _ => ?_
  have e : reduces_centroids.lift (ix1 n) k = ix2 n k := Shape.idx_ext₂ rfl rfl
  rw [e, mulf_apply, hc]

theorem dots_apply (hx : ∀ r k, x0 (ix2 r k) = ((x r k : ℝ) : EReal))
    (hc : ∀ (n : Fin 100000) k, c0 (ix2 n k) = ((y n.val k : ℝ) : EReal)) (r : Fin 1024) (n : Fin 100000) :
    Host.dotGeneral dot_S1024x32_S32x100000_S1024x100000_1_0_0_1_n_n none x0
        (transpose S32x100000 [1, 0] c0 transposes_S100000x32_S32x100000_1_0) (ix2 r n)
      = ((∑ k, x r k * y n.val k : ℝ) : EReal) := by
  refine (StackMember.dotGeneral_plain_apply (m := 1024) (k := 32) (n := 100000) none x0 _ r n).trans ?_
  rw [← sum_products]
  refine Finset.sum_congr rfl fun k _ => ?_
  rw [hx]
  refine congrArg _ ((transpose_ix2_apply c0 transposes_S100000x32_S32x100000_1_0 k n).trans (hc n k))

/-- Every entry of the table is a distance. -/
theorem dist_apply (hx : ∀ r k, x0 (ix2 r k) = ((x r k : ℝ) : EReal))
    (hc : ∀ (n : Fin 100000) k, c0 (ix2 n k) = ((y n.val k : ℝ) : EReal)) (r : Fin 1024) (n : Fin 100000) :
    dist x0 c0 (ix2 r n) = ((row x y r n.val : ℝ) : EReal) := by
  have h1 : broadcastInDim S1024x100000 ![0, 1] bcast_S1024x1_S1024x100000_0_1
      (broadcastInDim S1024x1 ![0] bcast_S1024_S1024x1_0
        (Host.reduceAdd (mulf x0 x0) (constant S_ .f32 0x00000000#32) reducesTo_S1024x32_S1024_d1 h_S_)) (ix2 r n)
      = ((∑ k, x r k * x r k : ℝ) : EReal) := by
    rw [broadcastInDim_apply _ _ _ _ (ix2 r 0) (by intro a; fin_cases a <;> simp),
      broadcastInDim_apply _ _ _ _ (ix1 r) (by intro a; fin_cases a; simp)]
    exact rowNorms_apply hx r
  have h2 : broadcastInDim S1024x100000 ![0, 1] bcast_S1x100000_S1024x100000_0_1
      (broadcastInDim S1x100000 ![1] bcast_S100000_S1x100000_1
        (Host.reduceAdd (mulf c0 c0) (constant S_ .f32 0x00000000#32) reducesTo_S100000x32_S100000_d1 h_S_)) (ix2 r n)
      = ((∑ k, y n.val k * y n.val k : ℝ) : EReal) := by
    rw [broadcastInDim_apply _ _ _ _ (ix2 0 n) (by intro a; fin_cases a <;> simp),
      broadcastInDim_apply _ _ _ _ (ix1 n) (by intro a; fin_cases a; simp)]
    exact centroidNorms_apply hc n
  have h3 := dots_apply hx hc r n
  unfold dist
  show Ideal.sqrt (max (_ + _ - Ideal.ofBits .f32 0x40000000#32 * _) (Ideal.ofBits .f32 0x00000000#32)) = _
  rw [h1, h2, h3, ofBits_two, Ideal.ofBits_zero_f32, ← EReal.coe_add, ← EReal.coe_mul, ← EReal.coe_sub]
  have e : (∑ k, x r k * x r k) + (∑ k, y n.val k * y n.val k) - 2 * ∑ k, x r k * y n.val k = squared (x r) (y n.val) := by
    unfold squared; ring
  rw [e, max_eq_left (EReal.coe_nonneg.mpr (squared_nonneg _ _)), Ideal.sqrt_coe, if_neg (not_lt.mpr (squared_nonneg _ _))]
  rfl

/-! ## The label -/

/-- The reduction keeps the pair of the lesser value, and of two equal values the lesser column. -/
theorem reducer_eq (a b : EReal × BitVec 32) :
    reducer_argmin_f32_i32 (F := Ideal) a b = if a.1 < b.1 ∨ (a.1 = b.1 ∧ a.2.toInt < b.2.toInt) then a else b := by
  obtain ⟨a1, a2⟩ := a
  obtain ⟨b1, b2⟩ := b
  have e : reducer_argmin_f32_i32 (F := Ideal) (a1, a2) (b1, b2)
      = (Scalar.select (IntOp.ori (BitVec.ofBool (decide (a1 < b1))) (BitVec.ofBool (decide (a1 ≠ a1)))) a1 b1,
          Scalar.select (IntOp.ori (IntOp.ori (BitVec.ofBool (decide (a1 < b1))) (BitVec.ofBool (decide (a1 ≠ a1))))
            (IntOp.andi (BitVec.ofBool (decide (a1 = b1))) (BitVec.ofBool (decide (a2.toInt < b2.toInt))))) a2 b2) := rfl
  rw [e]
  by_cases h1 : a1 < b1
  · simp [h1, h1.ne, IntOp.ori, IntOp.andi, Scalar.select]
  · by_cases h2 : a1 = b1
    · subst h2
      by_cases h3 : a2.toInt < b2.toInt <;> simp [h3, IntOp.ori, IntOp.andi, Scalar.select]
    · simp [h1, h2, IntOp.ori, IntOp.andi, Scalar.select]

variable {d : FVec Ideal S1024x100000 .f32} {D : Fin 1024 → ℕ → ℝ} {N : Fin 1024 → ℕ}

theorem toInt_ofNat {n : ℕ} (h : n < 100000) : (BitVec.ofNat 32 n).toInt = n := by
  rw [BitVec.toInt_eq_toNat_of_lt (by rw [BitVec.toNat_ofNat]; omega), BitVec.toNat_ofNat, Nat.mod_eq_of_lt (by omega)]

/-- Folding the reduction over pairs of entry and column, from the pair of infinity and zero, leaves the first column of the least entry. -/
theorem foldl_label {D : ℕ → ℝ} {n : ℕ} (h : IsFirst D 100000 n) (L : List (EReal × BitVec 32))
    (mem : (((D n : ℝ) : EReal), BitVec.ofNat 32 n) ∈ L) (key : ∀ q ∈ L, ∃ i, i < 100000 ∧ q = (((D i : ℝ) : EReal), BitVec.ofNat 32 i)) :
    L.foldl (reducer_argmin_f32_i32 (F := Ideal)) ((⊤ : EReal), 0#32) = (((D n : ℝ) : EReal), BitVec.ofNat 32 n) := by
  refine foldl_keeps _ (fun a b => ?_) _ _ _ (Or.inr mem) ?_ fun q hq => ?_
  · rw [reducer_eq]; split
    · exact Or.inl rfl
    · exact Or.inr rfl
  · rw [reducer_eq, reducer_eq]
    have h1 : ¬ ((⊤ : EReal) < ((D n : ℝ) : EReal)) := not_top_lt
    have h2 : (⊤ : EReal) ≠ ((D n : ℝ) : EReal) := (EReal.coe_ne_top _).symm
    exact ⟨if_neg (by rintro (h | ⟨h, -⟩); exacts [h1 h, h2 h]), if_pos (Or.inl (EReal.coe_lt_top _))⟩
  · obtain ⟨i, hi, rfl⟩ := key q hq
    rw [reducer_eq, reducer_eq]
    simp only [toInt_ofNat hi, toInt_ofNat h.lt, EReal.coe_lt_coe_iff, EReal.coe_eq_coe_iff]
    have hle := h.le i hi
    by_cases hin : i < n
    · have := h.before i hin
      exact ⟨if_neg (by rintro (h | ⟨h, -⟩) <;> linarith), if_pos (Or.inl this)⟩
    · refine ⟨if_neg (by rintro (h | ⟨-, h⟩); exacts [by linarith, by omega]), ?_⟩
      by_cases he : i = n
      · subst he; simp
      · refine if_pos ?_
        rcases hle.lt_or_eq with h | h
        · exact Or.inl h
        · exact Or.inr ⟨h, by omega⟩

/-- The pairs a row's reduction goes over: each entry of that row with its column. -/
theorem mem_fiber {R C : ℕ} (h : (⟨2, ![R, C]⟩ : Shape).ReducesTo [1] ⟨1, ![R]⟩) (h' : (⟨2, ![R, C]⟩ : Shape).Reduces [1] ⟨1, ![R]⟩)
    (d : FVec Ideal ⟨2, ![R, C]⟩ .f32) (r : Fin R) (q : EReal × BitVec 32) :
    q ∈ Host.argReduceFiber d (iotaInDim ⟨2, ![R, C]⟩ 32 1) h (ix1 r) ↔ ∃ n : Fin C, q = (d (ix2 r n), BitVec.ofNat 32 n.val) := by
  constructor
  · intro hq
    obtain ⟨k, hk, rfl⟩ := List.mem_map.mp hq
    have hk := of_decide_eq_true (List.mem_filter.mp hk).2
    obtain ⟨i, j, e⟩ : ∃ i j, (⟨2, ![R, C]⟩ : Shape).rowMajor.symm k = ix2 i j := ⟨_, _, eq_ix2 _⟩
    rw [e] at hk ⊢
    have hi : i = r := by
      have := congrFun hk 0
      rw [Shape.ReducesTo.drop_eq_drop _ h'] at this
      exact Fin.ext (congrArg Fin.val this)
    subst hi
    exact ⟨j, rfl⟩
  · rintro ⟨n, rfl⟩
    refine List.mem_map.mpr ⟨(⟨2, ![R, C]⟩ : Shape).rowMajor (ix2 r n), List.mem_filter.mpr ⟨List.mem_finRange _, ?_⟩, ?_⟩
    · refine decide_eq_true ?_
      rw [Equiv.symm_apply_apply, Shape.ReducesTo.drop_eq_drop _ h']
      funext a; fin_cases a; rfl
    · rw [Equiv.symm_apply_apply]; rfl

/-- A reduction over pairs of entry and column, from the pair of infinity and zero, is a fold over those pairs. -/
theorem argReduce_fold {s t : Shape} {axes : List (Fin s.rank)} (h : s.ReducesTo axes t) (hu : 0 < S_.numel)
    (f : Ideal .f32 × BitVec 32 → Ideal .f32 × BitVec 32 → Ideal .f32 × BitVec 32) (d : FVec Ideal s .f32) (y : IVec s 32) (j : t.Idx) :
    Host.argReduce f d y (constant S_ .f32 0x7F800000#32) (constantI S_ 32 0#32) h hu j
      = (Host.argReduceFiber d y h j).foldl f ((⊤ : EReal), 0#32) := by
  refine (congrFun (Ideal.argReduce_eq_reduce2 f d y _ _ h hu) j).trans ((Host.reduce2_eq_foldl_fiber f d y _ _ h hu j).trans ?_)
  rw [constant_apply, ofBits_top, constantI_apply]

section
variable {F : FTy → Type} [FloatOps F]

/-- The labels are the second halves of the reduction's pairs. -/
theorem label_second (d : FVec F S1024x100000 .f32) (P : S1024.Idx → F .f32 × BitVec 32)
    (h : Host.argReduce reducer_argmin_f32_i32 d (iotaInDim S1024x100000 32 1) (constant S_ .f32 0x7F800000#32) (constantI S_ 32 0#32)
      reducesTo_S1024x100000_S1024_d1 h_S_ = P) : label d = fun j => (P j).2 := by
  subst h; exact rfl

end

theorem label_at (d : FVec Ideal S1024x100000 .f32) (j : S1024.Idx) (p : EReal × BitVec 32)
    (h : Host.argReduce reducer_argmin_f32_i32 d (iotaInDim S1024x100000 32 1) (constant S_ .f32 0x7F800000#32) (constantI S_ 32 0#32)
      reducesTo_S1024x100000_S1024_d1 h_S_ j = p) : label d j = p.2 := by
  rw [label_second d _ rfl]
  exact congrArg Prod.snd h

/-- The label of a row is the first column of its least entry. -/
theorem label_apply (hd : ∀ r (n : Fin 100000), d (ix2 r n) = ((D r n.val : ℝ) : EReal)) (r : Fin 1024) {n : ℕ}
    (h : IsFirst (D r) 100000 n) : label d (ix1 r) = BitVec.ofNat 32 n := by
  have mem : (((D r n : ℝ) : EReal), BitVec.ofNat 32 n) ∈ Host.argReduceFiber d (iotaInDim S1024x100000 32 1) reducesTo_S1024x100000_S1024_d1 (ix1 r) :=
    (mem_fiber _ reduces_table d r _).mpr ⟨⟨n, h.lt⟩, by rw [hd]⟩
  have key : ∀ q ∈ Host.argReduceFiber d (iotaInDim S1024x100000 32 1) reducesTo_S1024x100000_S1024_d1 (ix1 r),
      ∃ i, i < 100000 ∧ q = (((D r i : ℝ) : EReal), BitVec.ofNat 32 i) := fun q hq => by
    obtain ⟨i, rfl⟩ := (mem_fiber _ reduces_table d r q).mp hq
    exact ⟨i.val, i.isLt, by rw [hd]⟩
  exact label_at d (ix1 r) (((D r n : ℝ) : EReal), BitVec.ofNat 32 n)
    ((argReduce_fold _ _ _ _ _ _).trans (foldl_label h _ mem key))

/-! ## The logarithm of the sum of exponentials -/

instance : Std.Commutative (FloatOps.maximumf (F := Ideal) (φ := .f32)) := inferInstanceAs (Std.Commutative (max : EReal → EReal → EReal))
instance : Std.Associative (FloatOps.maximumf (F := Ideal) (φ := .f32)) := inferInstanceAs (Std.Associative (max : EReal → EReal → EReal))

theorem lift_table (r : Fin 1024) (n : Fin 100000) : reduces_table.lift (ix1 r) n = ix2 r n := Shape.idx_ext₂ rfl rfl

variable {l : FVec Ideal S1024x100000 .f32}

/-- The greatest entry of a row of the negated table. -/
theorem rowMax_apply (hl : ∀ r (n : Fin 100000), l (ix2 r n) = ((-D r n.val : ℝ) : EReal)) (r : Fin 1024) (u : Fin 1) {n : ℕ}
    (h : IsFirst (D r) 100000 n) : rowMax l (ix2 r u) = ((-D r n : ℝ) : EReal) := by
  unfold rowMax
  rw [broadcastInDim_apply _ _ _ _ (ix1 r) (by intro a; fin_cases a; simp), Host.reduce_eq_fold_single _ _ _ _ reduces_table,
    constant_apply, ofBits_bot]
  refine (Finset.fold_congr (g := fun n : Fin 100000 => ((-D r n.val : ℝ) : EReal)) fun (n : Fin 100000) _ => ?_).trans
    (fold_max _ _ (fun i => ?_) ⟨⟨n, h.lt⟩, rfl⟩)
  · exact (congrArg l (lift_table r n)).trans (hl r n)
  · exact EReal.coe_le_coe_iff.mpr (neg_le_neg (h.le i.val i.isLt))

theorem log_add {s : Shape} (a b : FVec Ideal s .f32) (i : s.Idx) : addf (Host.log a) b i = Ideal.log (a i) + b i := rfl

/-- The logarithm of a row's sum of exponentials, as the reference forms it. -/
theorem logSumExp_apply (hl : ∀ r (n : Fin 100000), l (ix2 r n) = ((-D r n.val : ℝ) : EReal)) (r : Fin 1024) {n : ℕ}
    (h : IsFirst (D r) 100000 n) :
    logSumExp l (ix1 r) = ((Real.log (∑ i ∈ Finset.range 100000, Real.exp (-D r i)) + D r n + -D r n : ℝ) : EReal) := by
  have hs : (Host.reduceAdd (Host.exp (subf l (broadcastInDim S1024x100000 ![0, 1] bcast_S1024x1_S1024x100000_0_1 (rowMax l))))
      (constant S_ .f32 0x00000000#32) reducesTo_S1024x100000_S1024_d1 h_S_ (ix1 r) : EReal)
      = ((∑ i ∈ Finset.range 100000, Real.exp (-D r i - -D r n) : ℝ) : EReal) := by
    rw [hostReduceAdd_apply, Ideal.hostReduceAdd_single _ reduces_table, constant_apply, Ideal.ofBits_zero_f32, zero_add,
      ← Fin.sum_univ_eq_sum_range (fun i => Real.exp (-D r i - -D r n)) 100000, ← coe_sum]
    refine Finset.sum_congr rfl fun (k : Fin 100000) _ => ?_
    refine (congrArg _ (lift_table r k)).trans ?_
    show Ideal.exp (l (ix2 r k) - broadcastInDim S1024x100000 ![0, 1] bcast_S1024x1_S1024x100000_0_1 (rowMax l) (ix2 r k)) = _
    rw [broadcastInDim_apply _ _ _ _ (ix2 r 0) (by intro a; fin_cases a <;> simp), rowMax_apply hl r 0 h, hl, ← EReal.coe_sub, Ideal.exp_coe]
  have ht : shapeCast S1024 (rowMax l) shapeCasts_S1024x1_S1024 (ix1 r) = ((-D r n : ℝ) : EReal) := by
    rw [shapeCast_apply _ _ _ (ix2 r 0) (by rw [Shape.rowMajor_val_one, Shape.rowMajor_val_two]; simp)]
    exact rowMax_apply hl r 0 h
  unfold logSumExp
  rw [log_add, hs]
  rw [ht, Ideal.log_coe, if_neg (not_le.mpr (Finset.sum_pos (fun i _ => Real.exp_pos _) ⟨0, Finset.mem_range.mpr (by omega)⟩)),
    ← EReal.coe_add, log_shift _ ⟨0, Finset.mem_range.mpr (by omega)⟩]

/-! ## The entry at the label -/

variable {k : IVec S1024 32}

/-- The column looked up is the label: a label is not negative. -/
theorem column_apply (hk : ∀ r, k (ix1 r) = BitVec.ofNat 32 (N r)) (hN : ∀ r, N r < 100000) (r : Fin 1024) (u v : Fin 1) :
    column k (ix3 r u v) = BitVec.ofNat 32 (N r) := by
  unfold column
  rw [shapeCast_apply _ _ _ (ix2 r 0) (by
    have := u.isLt; have := v.isLt
    rw [Shape.rowMajor_val_two, Shape.rowMajor_val_three]; simp)]
  have hb : broadcastInDim S1024x1 ![0] bcast_S1024_S1024x1_0 k (ix2 r 0) = BitVec.ofNat 32 (N r) := by
    rw [broadcastInDim_apply _ _ _ _ (ix1 r) (by intro a; fin_cases a; simp), hk]
  have h1 := hN r
  rw [WordCmp.select_at, WordCmp.cmpi_at, hb]
  show Scalar.select (IntOp.cmpi .slt (BitVec.ofNat 32 (N r)) (BitVec.ofNat 32 0)) _ _ = _
  rw [WordCmp.cmpi_slt_ofNat (by omega) (by omega), WordCmp.select_decide, if_neg (by omega)]

/-- It lies inside the table. -/
theorem inside_apply (hk : ∀ r, k (ix1 r) = BitVec.ofNat 32 (N r)) (hN : ∀ r, N r < 100000) (j : S1024x1.Idx) : inside k j = 1#1 := by
  unfold inside
  refine Host.reduce_andi_one _ _ _ _ _ rfl fun i => ?_
  obtain ⟨r, u, v, rfl⟩ : ∃ (r : Fin 1024) (u v : Fin 1), i = ix3 r u v := ⟨_, _, _, eq_ix3 i⟩
  show IntOp.andi (IntOp.cmpi .sge (column k (ix3 r u v)) (BitVec.ofNat 32 0))
    (IntOp.cmpi .sle (column k (ix3 r u v)) (BitVec.ofNat 32 99999)) = 1#1
  have h1 := hN r
  rw [column_apply hk hN, WordCmp.cmpi_sge_eq, WordCmp.cmpi_sle_eq, toInt_ofNat h1, toInt_ofNat (by omega), toInt_ofNat (by omega)]
  rw [decide_eq_true (by omega), decide_eq_true (by omega)]
  rfl

/-- Reading the table at a row's column. -/
theorem gather_apply (w : IVec S1024x1x1 32) (z : S1024x1.Idx) :
    Host.gather gather_S1024x100000_S1024x1x1_S1024x1_n_1_0_0_1_2_11 l w z
      = l (ix2 ⟨(z 0).val, idx2_lt0 z⟩ ⟨min (w (takeIdx z)).toInt.toNat (100000 - 1), by omega⟩) := by
  let G := gather_S1024x100000_S1024x1x1_S1024x1_n_1_0_0_1_2_11
  unfold Host.gather
  congr 1
  funext a
  refine Fin.ext ?_
  show G.start z w a + G.batchCoord z a + G.offCoord z a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 2) ∈ G.operandBatchingDims from List.mem_singleton.mpr rfl)]
    rfl
  · rw [GatherDims.batchCoord_eq_zero _ _ _ (fun h => by simp [G, gather_S1024x100000_S1024x1x1_S1024x1_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ G.startIndexMap from List.mem_singleton.mpr rfl)]
    have hsi : G.siIdx z ⟨List.idxOf (1 : Fin 2) G.startIndexMap, List.idxOf_lt_length_iff.2 (List.mem_singleton.mpr rfl)⟩ = takeIdx z := by
      funext b; refine Fin.ext ?_
      match b with
      | ⟨0, _⟩ => rfl
      | ⟨1, _⟩ => rfl
      | ⟨2, _⟩ => rfl
    rw [hsi]
    rfl

theorem picked_apply (hk : ∀ r, k (ix1 r) = BitVec.ofNat 32 (N r)) (hN : ∀ r, N r < 100000) (r : Fin 1024) :
    picked l k (ix1 r) = l (ix2 r ⟨N r, hN r⟩) := by
  unfold picked
  rw [shapeCast_apply _ _ _ (ix2 r 0) (by rw [Shape.rowMajor_val_one, Shape.rowMajor_val_two]; simp)]
  rw [WordCmp.select_at, inside_apply hk hN, select_one, gather_apply]
  have e : takeIdx (R := 1024) (C := 1) (ix2 r 0) = ix3 r 0 0 := by
    funext b
    match b with
    | ⟨0, _⟩ => rfl
    | ⟨1, _⟩ => rfl
    | ⟨2, _⟩ => rfl
  have h1 := hN r
  congr 1
  refine Shape.idx_ext₂ rfl ?_
  show min (column k (takeIdx (R := 1024) (C := 1) (ix2 r 0))).toInt.toNat (100000 - 1) = N r
  rw [e, column_apply hk hN, toInt_ofNat h1]
  omega

/-! ## The loss -/

/-- A sum over the only axis is the sum of the entries. -/
theorem sum_all {n : ℕ} (h : (⟨1, ![n]⟩ : Shape).ReducesTo [0] S_) (v : (⟨1, ![n]⟩ : Shape).Idx → EReal) (init : EReal) (i : S_.Idx) :
    Ideal.hostReduceAdd h v init i = init + ∑ r : Fin n, v (ix1 r) := by
  have hi : ∀ j : (⟨1, ![n]⟩ : Shape).Idx, h.drop j = i := fun j => funext fun a => a.elim0
  unfold Ideal.hostReduceAdd
  rw [Finset.filter_true_of_mem fun j _ => hi j]
  refine congrArg (init + ·) (Fintype.sum_bijective (fun r : Fin n => (ix1 r : (⟨1, ![n]⟩ : Shape).Idx)) ⟨fun a b e => ?_, fun j => ?_⟩ _ _ fun _ => rfl).symm
  · exact congrFun e 0
  · exact ⟨j 0, (eq_ix1 j).symm⟩

theorem lossOf_apply (hl : ∀ r (n : Fin 100000), l (ix2 r n) = ((-D r n.val : ℝ) : EReal)) (hk : ∀ r, k (ix1 r) = BitVec.ofNat 32 (N r))
    (h : ∀ r, IsFirst (D r) 100000 (N r)) (i : S_.Idx) :
    lossOf l k i = Ideal.div (∑ r, ((Real.log (∑ i ∈ Finset.range 100000, Real.exp (-D r i)) + D r (N r) : ℝ) : EReal)) ((1024 : ℝ) : EReal) := by
  unfold lossOf
  rw [hostDivf_apply, constant_apply, ofBits_1024, hostReduceAdd_apply, constant_apply, Ideal.ofBits_zero_f32]
  refine congrArg (fun v => Ideal.div v ((1024 : ℝ) : EReal)) ((sum_all reducesTo_S1024_S_d0 _ 0 i).trans ?_)
  rw [zero_add]
  refine Finset.sum_congr rfl fun (r : Fin 1024) _ => ?_
  rw [subf_apply, logSumExp_apply hl r (h r), picked_apply hk (fun r => (h r).lt), hl, ← EReal.coe_sub]
  exact congrArg _ (by ring)

theorem loss_apply (hx : ∀ r k, x0 (ix2 r k) = ((x r k : ℝ) : EReal))
    (hc : ∀ (n : Fin 100000) k, c0 (ix2 n k) = ((y n.val k : ℝ) : EReal)) (h : ∀ r, IsFirst (row x y r) 100000 (N r)) (i : S_.Idx) :
    loss x0 c0 i = Ideal.div (∑ r, ((Real.log (∑ i ∈ Finset.range 100000, Real.exp (-row x y r i)) + row x y r (N r) : ℝ) : EReal))
      ((1024 : ℝ) : EReal) :=
  lossOf_apply (D := row x y) (fun r n => (congrArg (fun v : EReal => -v) (dist_apply hx hc r n)).trans (EReal.coe_neg _).symm)
    (fun r => label_apply (dist_apply hx hc) r (h r)) h i

end Cert.RefRun

end
-- ==== Proof.Finite.lean ====
/-
  What the precondition says of the arguments: every entry is a real number.
-/
module

public import proofs.«01_k».proof.Pre_finite
public import Idealize.ShloMosaic.Lib.IdealHost
public import Idealize.ShloMosaic.Lib.ReduceAll
public import proofs.«01_k».proof.Proof.KernelRow

@[expose] public section

noncomputable section

namespace Cert.Finite

open Idealize.ShloMosaic Cert.Pre_finite

/-- An extended real whose absolute value is below infinity is a real number. -/
theorem real_of_abs_lt {a : EReal} (h : max a (-a) < ⊤) : ((a.toReal : ℝ) : EReal) = a := by
  refine EReal.coe_toReal ?_ ?_
  · rintro rfl; simp at h
  · rintro rfl; simp at h

theorem andi_both : ∀ x y : BitVec 1, IntOp.andi x y = 1#1 → x = 1#1 ∧ y = 1#1 := by decide

instance : Subsingleton S_.Idx := ⟨fun _ _ => funext fun a => a.elim0⟩

/-- An entry that passes the comparison is a real number. -/
theorem real_of_less {s : Shape} {hb : S_.BroadcastsInDim s (![] : Fin 0 → Fin s.rank)} (x : FVec Ideal s .f32) (i : s.Idx)
    (h : cmpf .olt (Host.absf x) (broadcastInDim s ![] hb (constant S_ .f32 0x7F800000#32)) i = 1#1) : (((x i : EReal).toReal : ℝ) : EReal) = x i := by
  have h : BitVec.ofBool (decide (max (x i : EReal) (-x i) < Ideal.ofBits .f32 0x7F800000#32)) = 1#1 := h
  rw [Cert.KernelValue.ofBits_top] at h
  by_cases hlt : max (x i : EReal) (-x i) < ⊤
  · exact real_of_abs_lt hlt
  · rw [decide_eq_false hlt] at h
    exact absurd h (by decide)

/-- Under the precondition every entry of both arguments is a real number. -/
theorem entries [Facts] (a : FVec Ideal S1024x32 .f32) (b : FVec Ideal S100000x32 .f32) (h : fn a b = fun _ => 1#1) :
    (∀ i, (((a i : EReal).toReal : ℝ) : EReal) = a i) ∧ ∀ i, (((b i : EReal).toReal : ℝ) : EReal) = b i := by
  have h0 := congrFun h (Shape.Idx.first Facts.h_S_)
  obtain ⟨h1, h2⟩ := andi_both _ _ h0
  exact ⟨fun i => real_of_less a i (Host.reduce_andi_all _ _ _ _ _ h1 i), fun i => real_of_less b i (Host.reduce_andi_all _ _ _ _ _ h2 i)⟩

end Cert.Finite

end
-- ==== Proof.Equal.lean ====
/-
  The kernel's and the reference's results are equal over the extended reals when every entry of the arguments is real.
-/
module

public import proofs.«01_k».proof.Defs
public import proofs.«01_k».proof.Proof.KernelResult
public import proofs.«01_k».proof.Proof.RefValue
public import proofs.«01_k».proof.Proof.Finite

@[expose] public section

noncomputable section

namespace Cert.Equal

open Idealize.ShloMosaic Idealize.ShloMosaic.ValueIdx Idealize.SL.Sem Cert.RowMath
open Cert.KernelValue (row)

/-- A centroid table's entries as real numbers, zero past its end. -/
def centroid (b : FVec Ideal Cert.KernelIdeal.S100000x32 .f32) (n : ℕ) (k : Fin 32) : ℝ :=
  if h : n < 100000 then (b (ix2 ⟨n, h⟩ k) : EReal).toReal else 0

/-- The embeddings' entries as real numbers. -/
def embedding (a : FVec Ideal Cert.KernelIdeal.S1024x32 .f32) (r : Fin 1024) (k : Fin 32) : ℝ := (a (ix2 r k) : EReal).toReal

theorem centroid_val (b : FVec Ideal Cert.KernelIdeal.S100000x32 .f32) (n : Fin 100000) (k : Fin 32) :
    centroid b n.val k = (b (ix2 n k) : EReal).toReal := dif_pos n.isLt

/-- Arguments of real entries: the entries as real numbers, and each row's first column of the least distance. -/
theorem reals (a : FVec Ideal Cert.KernelIdeal.S1024x32 .f32) (b : FVec Ideal Cert.KernelIdeal.S100000x32 .f32)
    (ha : ∀ i, (((a i : EReal).toReal : ℝ) : EReal) = a i) (hb : ∀ i, (((b i : EReal).toReal : ℝ) : EReal) = b i) :
    ∃ (x : Fin 1024 → Fin 32 → ℝ) (y : ℕ → Fin 32 → ℝ) (n : Fin 1024 → ℕ), (∀ r k, a (ix2 r k) = ((x r k : ℝ) : EReal))
      ∧ (∀ (n : Fin 100000) k, b (ix2 n k) = ((y n.val k : ℝ) : EReal)) ∧ ∀ r, IsFirst (row x y r) 100000 (n r) := by
  have hn : ∀ r, ∃ n, IsFirst (row (embedding a) (centroid b) r) (99999 + 1) n := fun r => exists_first _ _
  choose n hn using hn
  exact ⟨embedding a, centroid b, n, fun r k => (ha _).symm,
    fun n k => (hb _).symm.trans (congrArg (fun v : ℝ => (v : EReal)) (centroid_val b n k).symm), hn⟩

/-- The two programs end with equal results when every entry of the arguments is finite. -/
theorem algebraic [Cert.Pre_finite.Facts] :
    algebraic_KernelIdeal_ReferenceIdeal_pre_finite (hKernelIdeal := Cert.KernelIdeal.Gen.facts) (hReferenceIdeal := Cert.ReferenceIdeal.Gen.facts) := by
  intro m g m' g' hpre hargs
  refine ⟨fun c i => shapeCast Cert.KernelIdeal.S_ (Cert.KernelValue.loss (Cert.KernelValue.final m c)) Cert.KernelIdeal.Gen.shapeCasts_S1x1_S_ i,
    fun c i => shapeCast Cert.KernelIdeal.S1024 (Cert.KernelValue.labels (Cert.KernelValue.final m c)) Cert.KernelIdeal.Gen.shapeCasts_S1024x1_S1024 i,
    Cert.KernelValue.run m g Cert.KernelValue.edge_ideal, (θ_run _ _ _).mono (fun _ h c => ?_) (Cert.RefRun.run m' g')⟩
  obtain ⟨h1, h2, h3, h4⟩ := h c
  obtain ⟨e0, e1⟩ := hargs c
  obtain ⟨ha, hb⟩ := Cert.Finite.entries _ _ (hpre c)
  obtain ⟨x, y, n, hx, hy, hn⟩ := reals _ _ ha hb
  refine ⟨h1.trans (funext fun i => ?_), h2.trans (funext fun i => ?_), h3, h4⟩
  · rw [e0, e1]
    exact (Cert.RefRun.loss_apply hx hy hn i).trans (Cert.KernelValue.loss_real ⟨hx, hy⟩ hn i).symm
  · obtain ⟨r, rfl⟩ : ∃ r : Fin 1024, i = ix1 r := ⟨_, eq_ix1 i⟩
    rw [e0, e1]
    exact (Cert.RefRun.label_apply (Cert.RefRun.dist_apply hx hy) r (hn r)).trans (Cert.KernelValue.labels_real ⟨hx, hy⟩ r (hn r)).symm

end Cert.Equal

end
-- ==== Proof.lean ====
/-
  The certificate's claims assembled: the three frames, the named constant, and the equality of results over the extended
  reals.
-/
module

public import proofs.«01_k».proof.Defs
public import proofs.«01_k».proof.Proof.BitsFrame
public import proofs.«01_k».proof.Proof.ChunkValue
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem

/-- The shape facts the precondition's operations take. -/
theorem finite_facts : Cert.Pre_finite.Facts where
  bcast_S_S1024x32 := by decide
  reducesTo_S1024x32_S_d0_1 := by decide
  h_S_ := by decide
  bcast_S_S100000x32 := by decide
  reducesTo_S100000x32_S_d0_1 := by decide

theorem frame_kernel : quiescent_Kernel (hKernel := Cert.Kernel.Gen.facts) := fun m g _ => Cert.BitsFrame.frame m g

theorem frame_kernel_ideal : quiescent_KernelIdeal (hKernelIdeal := Cert.KernelIdeal.Gen.facts) :=
  fun m g _ => Cert.KernelValue.frame m g Cert.KernelValue.edge_ideal

theorem frame_reference : quiescent_ReferenceIdeal (hReferenceIdeal := Cert.ReferenceIdeal.Gen.facts) :=
  fun m g _ => Cert.RefRun.frame m g

/-- The kernel's bound is read as the top of the extended reals. -/
theorem preserves : preserves_Kernel_KernelIdeal := IdealRules.named_const.statement _ _ _ _ _ rfl

theorem claim : Cert.Claim := ⟨Cert.Kernel.Gen.facts, Cert.KernelIdeal.Gen.facts, Cert.ReferenceIdeal.Gen.facts, finite_facts,
  frame_kernel, frame_kernel_ideal, fun m g _ => frame_kernel_ideal m g trivial, frame_reference, fun m g _ => frame_reference m g trivial,
  preserves, @Cert.Equal.algebraic finite_facts⟩

end Cert.Proof

end
